-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamPoint (m : (ℓ : Loc Cert.AdamPoint.nD Cert.AdamPoint.τ Cert.AdamPoint.sig) → Buf (Elt Bits) ℓ) : Prop :=
  True

def Pre_AdamPointIdeal (m : (ℓ : Loc Cert.AdamPointIdeal.nD Cert.AdamPointIdeal.τ Cert.AdamPointIdeal.sig) → Buf (Elt Ideal) ℓ) : Prop :=
  True

def Pre_AdamPointRefIdeal (m : (ℓ : Loc Cert.AdamPointRefIdeal.nD Cert.AdamPointRefIdeal.τ Cert.AdamPointRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3)
      ∧ r.2.mem ((c.tc : Thread Cert.InDw.nD Cert.InDw.τ).loc Cert.InDw.main_arg4) = m ((c.tc : Thread Cert.InDw.nD Cert.InDw.τ).loc Cert.InDw.main_arg4)
      ∧ r.2.mem ((c.tc : Thread Cert.InDw.nD Cert.InDw.τ).loc Cert.InDw.main_arg5) = m ((c.tc : Thread Cert.InDw.nD Cert.InDw.τ).loc Cert.InDw.main_arg5)
      ∧ r.2.mem ((c.tc : Thread Cert.InDw.nD Cert.InDw.τ).loc Cert.InDw.main_arg6) = m ((c.tc : Thread Cert.InDw.nD Cert.InDw.τ).loc Cert.InDw.main_arg6)
      ∧ r.2.mem ((c.tc : Thread Cert.InDw.nD Cert.InDw.τ).loc Cert.InDw.main_arg7) = m ((c.tc : Thread Cert.InDw.nD Cert.InDw.τ).loc Cert.InDw.main_arg7)
      ∧ r.2.mem ((c.tc : Thread Cert.InDw.nD Cert.InDw.τ).loc Cert.InDw.main_arg8) = m ((c.tc : Thread Cert.InDw.nD Cert.InDw.τ).loc Cert.InDw.main_arg8)
      ∧ r.2.mem ((c.tc : Thread Cert.InDw.nD Cert.InDw.τ).loc Cert.InDw.main_arg9) = m ((c.tc : Thread Cert.InDw.nD Cert.InDw.τ).loc Cert.InDw.main_arg9)
      ∧ r.2.mem ((c.tc : Thread Cert.InDw.nD Cert.InDw.τ).loc Cert.InDw.main_arg10) = m ((c.tc : Thread Cert.InDw.nD Cert.InDw.τ).loc Cert.InDw.main_arg10)
      ∧ r.2.mem ((c.tc : Thread Cert.InDw.nD Cert.InDw.τ).loc Cert.InDw.main_arg11) = m ((c.tc : Thread Cert.InDw.nD Cert.InDw.τ).loc Cert.InDw.main_arg11)
      ∧ r.2.mem ((c.tc : Thread Cert.InDw.nD Cert.InDw.τ).loc Cert.InDw.main_arg12) = m ((c.tc : Thread Cert.InDw.nD Cert.InDw.τ).loc Cert.InDw.main_arg12))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
      ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
      ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5)
      ∧ r.2.mem ((c.tc : Thread Cert.InDwIdeal.nD Cert.InDwIdeal.τ).loc Cert.InDwIdeal.main_arg6) = m ((c.tc : Thread Cert.InDwIdeal.nD Cert.InDwIdeal.τ).loc Cert.InDwIdeal.main_arg6)
      ∧ r.2.mem ((c.tc : Thread Cert.InDwIdeal.nD Cert.InDwIdeal.τ).loc Cert.InDwIdeal.main_arg7) = m ((c.tc : Thread Cert.InDwIdeal.nD Cert.InDwIdeal.τ).loc Cert.InDwIdeal.main_arg7)
      ∧ r.2.mem ((c.tc : Thread Cert.InDwIdeal.nD Cert.InDwIdeal.τ).loc Cert.InDwIdeal.main_arg8) = m ((c.tc : Thread Cert.InDwIdeal.nD Cert.InDwIdeal.τ).loc Cert.InDwIdeal.main_arg8)
      ∧ r.2.mem ((c.tc : Thread Cert.InDwIdeal.nD Cert.InDwIdeal.τ).loc Cert.InDwIdeal.main_arg9) = m ((c.tc : Thread Cert.InDwIdeal.nD Cert.InDwIdeal.τ).loc Cert.InDwIdeal.main_arg9)
      ∧ r.2.mem ((c.tc : Thread Cert.InDwIdeal.nD Cert.InDwIdeal.τ).loc Cert.InDwIdeal.main_arg10) = m ((c.tc : Thread Cert.InDwIdeal.nD Cert.InDwIdeal.τ).loc Cert.InDwIdeal.main_arg10)
      ∧ r.2.mem ((c.tc : Thread Cert.InDwIdeal.nD Cert.InDwIdeal.τ).loc Cert.InDwIdeal.main_arg11) = m ((c.tc : Thread Cert.InDwIdeal.nD Cert.InDwIdeal.τ).loc Cert.InDwIdeal.main_arg11)
      ∧ r.2.mem ((c.tc : Thread Cert.InDwIdeal.nD Cert.InDwIdeal.τ).loc Cert.InDwIdeal.main_arg12) = m ((c.tc : Thread Cert.InDwIdeal.nD Cert.InDwIdeal.τ).loc Cert.InDwIdeal.main_arg12))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3)
      ∧ r.2.mem ((c.tc : Thread Cert.InDwRefIdeal.nD Cert.InDwRefIdeal.τ).loc Cert.InDwRefIdeal.main_arg4) = m ((c.tc : Thread Cert.InDwRefIdeal.nD Cert.InDwRefIdeal.τ).loc Cert.InDwRefIdeal.main_arg4)
      ∧ r.2.mem ((c.tc : Thread Cert.InDwRefIdeal.nD Cert.InDwRefIdeal.τ).loc Cert.InDwRefIdeal.main_arg5) = m ((c.tc : Thread Cert.InDwRefIdeal.nD Cert.InDwRefIdeal.τ).loc Cert.InDwRefIdeal.main_arg5)
      ∧ r.2.mem ((c.tc : Thread Cert.InDwRefIdeal.nD Cert.InDwRefIdeal.τ).loc Cert.InDwRefIdeal.main_arg6) = m ((c.tc : Thread Cert.InDwRefIdeal.nD Cert.InDwRefIdeal.τ).loc Cert.InDwRefIdeal.main_arg6)
      ∧ r.2.mem ((c.tc : Thread Cert.InDwRefIdeal.nD Cert.InDwRefIdeal.τ).loc Cert.InDwRefIdeal.main_arg7) = m ((c.tc : Thread Cert.InDwRefIdeal.nD Cert.InDwRefIdeal.τ).loc Cert.InDwRefIdeal.main_arg7)
      ∧ r.2.mem ((c.tc : Thread Cert.InDwRefIdeal.nD Cert.InDwRefIdeal.τ).loc Cert.InDwRefIdeal.main_arg8) = m ((c.tc : Thread Cert.InDwRefIdeal.nD Cert.InDwRefIdeal.τ).loc Cert.InDwRefIdeal.main_arg8)
      ∧ r.2.mem ((c.tc : Thread Cert.InDwRefIdeal.nD Cert.InDwRefIdeal.τ).loc Cert.InDwRefIdeal.main_arg9) = m ((c.tc : Thread Cert.InDwRefIdeal.nD Cert.InDwRefIdeal.τ).loc Cert.InDwRefIdeal.main_arg9)
      ∧ r.2.mem ((c.tc : Thread Cert.InDwRefIdeal.nD Cert.InDwRefIdeal.τ).loc Cert.InDwRefIdeal.main_arg10) = m ((c.tc : Thread Cert.InDwRefIdeal.nD Cert.InDwRefIdeal.τ).loc Cert.InDwRefIdeal.main_arg10)
      ∧ r.2.mem ((c.tc : Thread Cert.InDwRefIdeal.nD Cert.InDwRefIdeal.τ).loc Cert.InDwRefIdeal.main_arg11) = m ((c.tc : Thread Cert.InDwRefIdeal.nD Cert.InDwRefIdeal.τ).loc Cert.InDwRefIdeal.main_arg11)
      ∧ r.2.mem ((c.tc : Thread Cert.InDwRefIdeal.nD Cert.InDwRefIdeal.τ).loc Cert.InDwRefIdeal.main_arg12) = m ((c.tc : Thread Cert.InDwRefIdeal.nD Cert.InDwRefIdeal.τ).loc Cert.InDwRefIdeal.main_arg12))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7)
      ∧ r.2.mem ((c.tc : Thread Cert.InDx.nD Cert.InDx.τ).loc Cert.InDx.main_arg8) = m ((c.tc : Thread Cert.InDx.nD Cert.InDx.τ).loc Cert.InDx.main_arg8)
      ∧ r.2.mem ((c.tc : Thread Cert.InDx.nD Cert.InDx.τ).loc Cert.InDx.main_arg9) = m ((c.tc : Thread Cert.InDx.nD Cert.InDx.τ).loc Cert.InDx.main_arg9)
      ∧ r.2.mem ((c.tc : Thread Cert.InDx.nD Cert.InDx.τ).loc Cert.InDx.main_arg10) = m ((c.tc : Thread Cert.InDx.nD Cert.InDx.τ).loc Cert.InDx.main_arg10)
      ∧ r.2.mem ((c.tc : Thread Cert.InDx.nD Cert.InDx.τ).loc Cert.InDx.main_arg11) = m ((c.tc : Thread Cert.InDx.nD Cert.InDx.τ).loc Cert.InDx.main_arg11)
      ∧ r.2.mem ((c.tc : Thread Cert.InDx.nD Cert.InDx.τ).loc Cert.InDx.main_arg12) = m ((c.tc : Thread Cert.InDx.nD Cert.InDx.τ).loc Cert.InDx.main_arg12))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
      ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
      ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9)
      ∧ r.2.mem ((c.tc : Thread Cert.InDxIdeal.nD Cert.InDxIdeal.τ).loc Cert.InDxIdeal.main_arg10) = m ((c.tc : Thread Cert.InDxIdeal.nD Cert.InDxIdeal.τ).loc Cert.InDxIdeal.main_arg10)
      ∧ r.2.mem ((c.tc : Thread Cert.InDxIdeal.nD Cert.InDxIdeal.τ).loc Cert.InDxIdeal.main_arg11) = m ((c.tc : Thread Cert.InDxIdeal.nD Cert.InDxIdeal.τ).loc Cert.InDxIdeal.main_arg11)
      ∧ r.2.mem ((c.tc : Thread Cert.InDxIdeal.nD Cert.InDxIdeal.τ).loc Cert.InDxIdeal.main_arg12) = m ((c.tc : Thread Cert.InDxIdeal.nD Cert.InDxIdeal.τ).loc Cert.InDxIdeal.main_arg12))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7)
      ∧ r.2.mem ((c.tc : Thread Cert.InDxRefIdeal.nD Cert.InDxRefIdeal.τ).loc Cert.InDxRefIdeal.main_arg8) = m ((c.tc : Thread Cert.InDxRefIdeal.nD Cert.InDxRefIdeal.τ).loc Cert.InDxRefIdeal.main_arg8)
      ∧ r.2.mem ((c.tc : Thread Cert.InDxRefIdeal.nD Cert.InDxRefIdeal.τ).loc Cert.InDxRefIdeal.main_arg9) = m ((c.tc : Thread Cert.InDxRefIdeal.nD Cert.InDxRefIdeal.τ).loc Cert.InDxRefIdeal.main_arg9)
      ∧ r.2.mem ((c.tc : Thread Cert.InDxRefIdeal.nD Cert.InDxRefIdeal.τ).loc Cert.InDxRefIdeal.main_arg10) = m ((c.tc : Thread Cert.InDxRefIdeal.nD Cert.InDxRefIdeal.τ).loc Cert.InDxRefIdeal.main_arg10)
      ∧ r.2.mem ((c.tc : Thread Cert.InDxRefIdeal.nD Cert.InDxRefIdeal.τ).loc Cert.InDxRefIdeal.main_arg11) = m ((c.tc : Thread Cert.InDxRefIdeal.nD Cert.InDxRefIdeal.τ).loc Cert.InDxRefIdeal.main_arg11)
      ∧ r.2.mem ((c.tc : Thread Cert.InDxRefIdeal.nD Cert.InDxRefIdeal.τ).loc Cert.InDxRefIdeal.main_arg12) = m ((c.tc : Thread Cert.InDxRefIdeal.nD Cert.InDxRefIdeal.τ).loc Cert.InDxRefIdeal.main_arg12))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamPoint [hAdamPoint : Cert.AdamPoint.Facts] : Prop :=
  ∀ (m : (ℓ : Loc Cert.AdamPoint.nD Cert.AdamPoint.τ Cert.AdamPoint.sig) → Buf (Elt Bits) ℓ) (g : Dev Cert.AdamPoint.nD → PrngReg), Pre_AdamPoint m →
    θ_run (Cert.AdamPoint.defs (F := Bits)) (onTc (τ := Cert.AdamPoint.τ) (Cert.AdamPoint.main (F := Bits))) ⟨m, fun _ => 0, g⟩ (fun r => (∀ c : Dev Cert.AdamPoint.nD,
      r.2.mem ((c.tc : Thread Cert.AdamPoint.nD Cert.AdamPoint.τ).loc Cert.AdamPoint.main_arg0) = m ((c.tc : Thread Cert.AdamPoint.nD Cert.AdamPoint.τ).loc Cert.AdamPoint.main_arg0)
      ∧ r.2.mem ((c.tc : Thread Cert.AdamPoint.nD Cert.AdamPoint.τ).loc Cert.AdamPoint.main_arg1) = m ((c.tc : Thread Cert.AdamPoint.nD Cert.AdamPoint.τ).loc Cert.AdamPoint.main_arg1)
      ∧ r.2.mem ((c.tc : Thread Cert.AdamPoint.nD Cert.AdamPoint.τ).loc Cert.AdamPoint.main_arg2) = m ((c.tc : Thread Cert.AdamPoint.nD Cert.AdamPoint.τ).loc Cert.AdamPoint.main_arg2)
      ∧ r.2.mem ((c.tc : Thread Cert.AdamPoint.nD Cert.AdamPoint.τ).loc Cert.AdamPoint.main_arg3) = m ((c.tc : Thread Cert.AdamPoint.nD Cert.AdamPoint.τ).loc Cert.AdamPoint.main_arg3)
      ∧ r.2.mem ((c.tc : Thread Cert.AdamPoint.nD Cert.AdamPoint.τ).loc Cert.AdamPoint.main_arg4) = m ((c.tc : Thread Cert.AdamPoint.nD Cert.AdamPoint.τ).loc Cert.AdamPoint.main_arg4))
      ∧ r.2.sem = fun _ => 0)

def quiescent_AdamPointIdeal [hAdamPointIdeal : Cert.AdamPointIdeal.Facts] : Prop :=
  ∀ (m : (ℓ : Loc Cert.AdamPointIdeal.nD Cert.AdamPointIdeal.τ Cert.AdamPointIdeal.sig) → Buf (Elt Ideal) ℓ) (g : Dev Cert.AdamPointIdeal.nD → PrngReg), Pre_AdamPointIdeal m →
    θ_run (Cert.AdamPointIdeal.defs (F := Ideal)) (onTc (τ := Cert.AdamPointIdeal.τ) (Cert.AdamPointIdeal.main (F := Ideal))) ⟨m, fun _ => 0, g⟩ (fun r => (∀ c : Dev Cert.AdamPointIdeal.nD,
      r.2.mem ((c.tc : Thread Cert.AdamPointIdeal.nD Cert.AdamPointIdeal.τ).loc Cert.AdamPointIdeal.main_arg0) = m ((c.tc : Thread Cert.AdamPointIdeal.nD Cert.AdamPointIdeal.τ).loc Cert.AdamPointIdeal.main_arg0)
      ∧ r.2.mem ((c.tc : Thread Cert.AdamPointIdeal.nD Cert.AdamPointIdeal.τ).loc Cert.AdamPointIdeal.main_arg1) = m ((c.tc : Thread Cert.AdamPointIdeal.nD Cert.AdamPointIdeal.τ).loc Cert.AdamPointIdeal.main_arg1)
      ∧ r.2.mem ((c.tc : Thread Cert.AdamPointIdeal.nD Cert.AdamPointIdeal.τ).loc Cert.AdamPointIdeal.main_arg2) = m ((c.tc : Thread Cert.AdamPointIdeal.nD Cert.AdamPointIdeal.τ).loc Cert.AdamPointIdeal.main_arg2)
      ∧ r.2.mem ((c.tc : Thread Cert.AdamPointIdeal.nD Cert.AdamPointIdeal.τ).loc Cert.AdamPointIdeal.main_arg3) = m ((c.tc : Thread Cert.AdamPointIdeal.nD Cert.AdamPointIdeal.τ).loc Cert.AdamPointIdeal.main_arg3)
      ∧ r.2.mem ((c.tc : Thread Cert.AdamPointIdeal.nD Cert.AdamPointIdeal.τ).loc Cert.AdamPointIdeal.main_arg4) = m ((c.tc : Thread Cert.AdamPointIdeal.nD Cert.AdamPointIdeal.τ).loc Cert.AdamPointIdeal.main_arg4))
      ∧ r.2.sem = fun _ => 0)

def quiescent_AdamPointRefIdeal [hAdamPointRefIdeal : Cert.AdamPointRefIdeal.Facts] : Prop :=
  ∀ (m : (ℓ : Loc Cert.AdamPointRefIdeal.nD Cert.AdamPointRefIdeal.τ Cert.AdamPointRefIdeal.sig) → Buf (Elt Ideal) ℓ) (g : Dev Cert.AdamPointRefIdeal.nD → PrngReg), Pre_AdamPointRefIdeal m →
    θ_run (Cert.AdamPointRefIdeal.defs (F := Ideal)) (onTc (τ := Cert.AdamPointRefIdeal.τ) (Cert.AdamPointRefIdeal.main (F := Ideal))) ⟨m, fun _ => 0, g⟩ (fun r => (∀ c : Dev Cert.AdamPointRefIdeal.nD,
      r.2.mem ((c.tc : Thread Cert.AdamPointRefIdeal.nD Cert.AdamPointRefIdeal.τ).loc Cert.AdamPointRefIdeal.main_arg0) = m ((c.tc : Thread Cert.AdamPointRefIdeal.nD Cert.AdamPointRefIdeal.τ).loc Cert.AdamPointRefIdeal.main_arg0)
      ∧ r.2.mem ((c.tc : Thread Cert.AdamPointRefIdeal.nD Cert.AdamPointRefIdeal.τ).loc Cert.AdamPointRefIdeal.main_arg1) = m ((c.tc : Thread Cert.AdamPointRefIdeal.nD Cert.AdamPointRefIdeal.τ).loc Cert.AdamPointRefIdeal.main_arg1)
      ∧ r.2.mem ((c.tc : Thread Cert.AdamPointRefIdeal.nD Cert.AdamPointRefIdeal.τ).loc Cert.AdamPointRefIdeal.main_arg2) = m ((c.tc : Thread Cert.AdamPointRefIdeal.nD Cert.AdamPointRefIdeal.τ).loc Cert.AdamPointRefIdeal.main_arg2)
      ∧ r.2.mem ((c.tc : Thread Cert.AdamPointRefIdeal.nD Cert.AdamPointRefIdeal.τ).loc Cert.AdamPointRefIdeal.main_arg3) = m ((c.tc : Thread Cert.AdamPointRefIdeal.nD Cert.AdamPointRefIdeal.τ).loc Cert.AdamPointRefIdeal.main_arg3)
      ∧ r.2.mem ((c.tc : Thread Cert.AdamPointRefIdeal.nD Cert.AdamPointRefIdeal.τ).loc Cert.AdamPointRefIdeal.main_arg4) = m ((c.tc : Thread Cert.AdamPointRefIdeal.nD Cert.AdamPointRefIdeal.τ).loc Cert.AdamPointRefIdeal.main_arg4))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def preserves_Kernel_KernelIdeal : Prop :=
  IdealRules.named_const.Statement Cert.KernelIdeal.κ "mask" .f32 0xF149F2CA#32 ⊥

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v13) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v4) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v1) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)
      ∧ m' ((c.tc : Thread Cert.InDwRefIdeal.nD Cert.InDwRefIdeal.τ).loc Cert.InDwRefIdeal.main_arg3) = m ((c.tc : Thread Cert.InDwIdeal.nD Cert.InDwIdeal.τ).loc Cert.InDwIdeal.main_arg3)
      ∧ m' ((c.tc : Thread Cert.InDwRefIdeal.nD Cert.InDwRefIdeal.τ).loc Cert.InDwRefIdeal.main_arg4) = m ((c.tc : Thread Cert.InDwIdeal.nD Cert.InDwIdeal.τ).loc Cert.InDwIdeal.main_arg4)
      ∧ m' ((c.tc : Thread Cert.InDwRefIdeal.nD Cert.InDwRefIdeal.τ).loc Cert.InDwRefIdeal.main_arg5) = m ((c.tc : Thread Cert.InDwIdeal.nD Cert.InDwIdeal.τ).loc Cert.InDwIdeal.main_arg5)
      ∧ m' ((c.tc : Thread Cert.InDwRefIdeal.nD Cert.InDwRefIdeal.τ).loc Cert.InDwRefIdeal.main_arg6) = m ((c.tc : Thread Cert.InDwIdeal.nD Cert.InDwIdeal.τ).loc Cert.InDwIdeal.main_arg6)
      ∧ m' ((c.tc : Thread Cert.InDwRefIdeal.nD Cert.InDwRefIdeal.τ).loc Cert.InDwRefIdeal.main_arg7) = m ((c.tc : Thread Cert.InDwIdeal.nD Cert.InDwIdeal.τ).loc Cert.InDwIdeal.main_arg7)
      ∧ m' ((c.tc : Thread Cert.InDwRefIdeal.nD Cert.InDwRefIdeal.τ).loc Cert.InDwRefIdeal.main_arg8) = m ((c.tc : Thread Cert.InDwIdeal.nD Cert.InDwIdeal.τ).loc Cert.InDwIdeal.main_arg8)
      ∧ m' ((c.tc : Thread Cert.InDwRefIdeal.nD Cert.InDwRefIdeal.τ).loc Cert.InDwRefIdeal.main_arg9) = m ((c.tc : Thread Cert.InDwIdeal.nD Cert.InDwIdeal.τ).loc Cert.InDwIdeal.main_arg9)
      ∧ m' ((c.tc : Thread Cert.InDwRefIdeal.nD Cert.InDwRefIdeal.τ).loc Cert.InDwRefIdeal.main_arg10) = m ((c.tc : Thread Cert.InDwIdeal.nD Cert.InDwIdeal.τ).loc Cert.InDwIdeal.main_arg10)
      ∧ m' ((c.tc : Thread Cert.InDwRefIdeal.nD Cert.InDwRefIdeal.τ).loc Cert.InDwRefIdeal.main_arg11) = m ((c.tc : Thread Cert.InDwIdeal.nD Cert.InDwIdeal.τ).loc Cert.InDwIdeal.main_arg11)
      ∧ m' ((c.tc : Thread Cert.InDwRefIdeal.nD Cert.InDwRefIdeal.τ).loc Cert.InDwRefIdeal.main_arg12) = m ((c.tc : Thread Cert.InDwIdeal.nD Cert.InDwIdeal.τ).loc Cert.InDwIdeal.main_arg12)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
          ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
          ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5)
          ∧ r.2.mem ((c.tc : Thread Cert.InDwIdeal.nD Cert.InDwIdeal.τ).loc Cert.InDwIdeal.main_arg6) = m ((c.tc : Thread Cert.InDwIdeal.nD Cert.InDwIdeal.τ).loc Cert.InDwIdeal.main_arg6)
          ∧ r.2.mem ((c.tc : Thread Cert.InDwIdeal.nD Cert.InDwIdeal.τ).loc Cert.InDwIdeal.main_arg7) = m ((c.tc : Thread Cert.InDwIdeal.nD Cert.InDwIdeal.τ).loc Cert.InDwIdeal.main_arg7)
          ∧ r.2.mem ((c.tc : Thread Cert.InDwIdeal.nD Cert.InDwIdeal.τ).loc Cert.InDwIdeal.main_arg8) = m ((c.tc : Thread Cert.InDwIdeal.nD Cert.InDwIdeal.τ).loc Cert.InDwIdeal.main_arg8)
          ∧ r.2.mem ((c.tc : Thread Cert.InDwIdeal.nD Cert.InDwIdeal.τ).loc Cert.InDwIdeal.main_arg9) = m ((c.tc : Thread Cert.InDwIdeal.nD Cert.InDwIdeal.τ).loc Cert.InDwIdeal.main_arg9)
          ∧ r.2.mem ((c.tc : Thread Cert.InDwIdeal.nD Cert.InDwIdeal.τ).loc Cert.InDwIdeal.main_arg10) = m ((c.tc : Thread Cert.InDwIdeal.nD Cert.InDwIdeal.τ).loc Cert.InDwIdeal.main_arg10)
          ∧ r.2.mem ((c.tc : Thread Cert.InDwIdeal.nD Cert.InDwIdeal.τ).loc Cert.InDwIdeal.main_arg11) = m ((c.tc : Thread Cert.InDwIdeal.nD Cert.InDwIdeal.τ).loc Cert.InDwIdeal.main_arg11)
          ∧ r.2.mem ((c.tc : Thread Cert.InDwIdeal.nD Cert.InDwIdeal.τ).loc Cert.InDwIdeal.main_arg12) = m ((c.tc : Thread Cert.InDwIdeal.nD Cert.InDwIdeal.τ).loc Cert.InDwIdeal.main_arg12))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2)
          ∧ r.2.mem ((c.tc : Thread Cert.InDwRefIdeal.nD Cert.InDwRefIdeal.τ).loc Cert.InDwRefIdeal.main_arg3) = m' ((c.tc : Thread Cert.InDwRefIdeal.nD Cert.InDwRefIdeal.τ).loc Cert.InDwRefIdeal.main_arg3)
          ∧ r.2.mem ((c.tc : Thread Cert.InDwRefIdeal.nD Cert.InDwRefIdeal.τ).loc Cert.InDwRefIdeal.main_arg4) = m' ((c.tc : Thread Cert.InDwRefIdeal.nD Cert.InDwRefIdeal.τ).loc Cert.InDwRefIdeal.main_arg4)
          ∧ r.2.mem ((c.tc : Thread Cert.InDwRefIdeal.nD Cert.InDwRefIdeal.τ).loc Cert.InDwRefIdeal.main_arg5) = m' ((c.tc : Thread Cert.InDwRefIdeal.nD Cert.InDwRefIdeal.τ).loc Cert.InDwRefIdeal.main_arg5)
          ∧ r.2.mem ((c.tc : Thread Cert.InDwRefIdeal.nD Cert.InDwRefIdeal.τ).loc Cert.InDwRefIdeal.main_arg6) = m' ((c.tc : Thread Cert.InDwRefIdeal.nD Cert.InDwRefIdeal.τ).loc Cert.InDwRefIdeal.main_arg6)
          ∧ r.2.mem ((c.tc : Thread Cert.InDwRefIdeal.nD Cert.InDwRefIdeal.τ).loc Cert.InDwRefIdeal.main_arg7) = m' ((c.tc : Thread Cert.InDwRefIdeal.nD Cert.InDwRefIdeal.τ).loc Cert.InDwRefIdeal.main_arg7)
          ∧ r.2.mem ((c.tc : Thread Cert.InDwRefIdeal.nD Cert.InDwRefIdeal.τ).loc Cert.InDwRefIdeal.main_arg8) = m' ((c.tc : Thread Cert.InDwRefIdeal.nD Cert.InDwRefIdeal.τ).loc Cert.InDwRefIdeal.main_arg8)
          ∧ r.2.mem ((c.tc : Thread Cert.InDwRefIdeal.nD Cert.InDwRefIdeal.τ).loc Cert.InDwRefIdeal.main_arg9) = m' ((c.tc : Thread Cert.InDwRefIdeal.nD Cert.InDwRefIdeal.τ).loc Cert.InDwRefIdeal.main_arg9)
          ∧ r.2.mem ((c.tc : Thread Cert.InDwRefIdeal.nD Cert.InDwRefIdeal.τ).loc Cert.InDwRefIdeal.main_arg10) = m' ((c.tc : Thread Cert.InDwRefIdeal.nD Cert.InDwRefIdeal.τ).loc Cert.InDwRefIdeal.main_arg10)
          ∧ r.2.mem ((c.tc : Thread Cert.InDwRefIdeal.nD Cert.InDwRefIdeal.τ).loc Cert.InDwRefIdeal.main_arg11) = m' ((c.tc : Thread Cert.InDwRefIdeal.nD Cert.InDwRefIdeal.τ).loc Cert.InDwRefIdeal.main_arg11)
          ∧ r.2.mem ((c.tc : Thread Cert.InDwRefIdeal.nD Cert.InDwRefIdeal.τ).loc Cert.InDwRefIdeal.main_arg12) = m' ((c.tc : Thread Cert.InDwRefIdeal.nD Cert.InDwRefIdeal.τ).loc Cert.InDwRefIdeal.main_arg12))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)
      ∧ m' ((c.tc : Thread Cert.InDxRefIdeal.nD Cert.InDxRefIdeal.τ).loc Cert.InDxRefIdeal.main_arg7) = m ((c.tc : Thread Cert.InDxIdeal.nD Cert.InDxIdeal.τ).loc Cert.InDxIdeal.main_arg7)
      ∧ m' ((c.tc : Thread Cert.InDxRefIdeal.nD Cert.InDxRefIdeal.τ).loc Cert.InDxRefIdeal.main_arg8) = m ((c.tc : Thread Cert.InDxIdeal.nD Cert.InDxIdeal.τ).loc Cert.InDxIdeal.main_arg8)
      ∧ m' ((c.tc : Thread Cert.InDxRefIdeal.nD Cert.InDxRefIdeal.τ).loc Cert.InDxRefIdeal.main_arg9) = m ((c.tc : Thread Cert.InDxIdeal.nD Cert.InDxIdeal.τ).loc Cert.InDxIdeal.main_arg9)
      ∧ m' ((c.tc : Thread Cert.InDxRefIdeal.nD Cert.InDxRefIdeal.τ).loc Cert.InDxRefIdeal.main_arg10) = m ((c.tc : Thread Cert.InDxIdeal.nD Cert.InDxIdeal.τ).loc Cert.InDxIdeal.main_arg10)
      ∧ m' ((c.tc : Thread Cert.InDxRefIdeal.nD Cert.InDxRefIdeal.τ).loc Cert.InDxRefIdeal.main_arg11) = m ((c.tc : Thread Cert.InDxIdeal.nD Cert.InDxIdeal.τ).loc Cert.InDxIdeal.main_arg11)
      ∧ m' ((c.tc : Thread Cert.InDxRefIdeal.nD Cert.InDxRefIdeal.τ).loc Cert.InDxRefIdeal.main_arg12) = m ((c.tc : Thread Cert.InDxIdeal.nD Cert.InDxIdeal.τ).loc Cert.InDxIdeal.main_arg12)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
          ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
          ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9)
          ∧ r.2.mem ((c.tc : Thread Cert.InDxIdeal.nD Cert.InDxIdeal.τ).loc Cert.InDxIdeal.main_arg10) = m ((c.tc : Thread Cert.InDxIdeal.nD Cert.InDxIdeal.τ).loc Cert.InDxIdeal.main_arg10)
          ∧ r.2.mem ((c.tc : Thread Cert.InDxIdeal.nD Cert.InDxIdeal.τ).loc Cert.InDxIdeal.main_arg11) = m ((c.tc : Thread Cert.InDxIdeal.nD Cert.InDxIdeal.τ).loc Cert.InDxIdeal.main_arg11)
          ∧ r.2.mem ((c.tc : Thread Cert.InDxIdeal.nD Cert.InDxIdeal.τ).loc Cert.InDxIdeal.main_arg12) = m ((c.tc : Thread Cert.InDxIdeal.nD Cert.InDxIdeal.τ).loc Cert.InDxIdeal.main_arg12))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6)
          ∧ r.2.mem ((c.tc : Thread Cert.InDxRefIdeal.nD Cert.InDxRefIdeal.τ).loc Cert.InDxRefIdeal.main_arg7) = m' ((c.tc : Thread Cert.InDxRefIdeal.nD Cert.InDxRefIdeal.τ).loc Cert.InDxRefIdeal.main_arg7)
          ∧ r.2.mem ((c.tc : Thread Cert.InDxRefIdeal.nD Cert.InDxRefIdeal.τ).loc Cert.InDxRefIdeal.main_arg8) = m' ((c.tc : Thread Cert.InDxRefIdeal.nD Cert.InDxRefIdeal.τ).loc Cert.InDxRefIdeal.main_arg8)
          ∧ r.2.mem ((c.tc : Thread Cert.InDxRefIdeal.nD Cert.InDxRefIdeal.τ).loc Cert.InDxRefIdeal.main_arg9) = m' ((c.tc : Thread Cert.InDxRefIdeal.nD Cert.InDxRefIdeal.τ).loc Cert.InDxRefIdeal.main_arg9)
          ∧ r.2.mem ((c.tc : Thread Cert.InDxRefIdeal.nD Cert.InDxRefIdeal.τ).loc Cert.InDxRefIdeal.main_arg10) = m' ((c.tc : Thread Cert.InDxRefIdeal.nD Cert.InDxRefIdeal.τ).loc Cert.InDxRefIdeal.main_arg10)
          ∧ r.2.mem ((c.tc : Thread Cert.InDxRefIdeal.nD Cert.InDxRefIdeal.τ).loc Cert.InDxRefIdeal.main_arg11) = m' ((c.tc : Thread Cert.InDxRefIdeal.nD Cert.InDxRefIdeal.τ).loc Cert.InDxRefIdeal.main_arg11)
          ∧ r.2.mem ((c.tc : Thread Cert.InDxRefIdeal.nD Cert.InDxRefIdeal.τ).loc Cert.InDxRefIdeal.main_arg12) = m' ((c.tc : Thread Cert.InDxRefIdeal.nD Cert.InDxRefIdeal.τ).loc Cert.InDxRefIdeal.main_arg12))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v6) = v2 c
          ∧ r.2.mem ((c.tc : Thread Cert.AdamConvRefIdeal.nD Cert.AdamConvRefIdeal.τ).loc Cert.AdamConvRefIdeal.main_v12) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamPoint_AdamPointIdeal : Prop :=
  True

def algebraic_AdamPointIdeal_AdamPointRefIdeal [hAdamPointIdeal : Cert.AdamPointIdeal.Facts] [hAdamPointRefIdeal : Cert.AdamPointRefIdeal.Facts] : Prop :=
  ∀ (m : (ℓ : Loc Cert.AdamPointIdeal.nD Cert.AdamPointIdeal.τ Cert.AdamPointIdeal.sig) → Buf (Elt Ideal) ℓ) (g : Dev Cert.AdamPointIdeal.nD → PrngReg)
    (m' : (ℓ : Loc Cert.AdamPointRefIdeal.nD Cert.AdamPointRefIdeal.τ Cert.AdamPointRefIdeal.sig) → Buf (Elt Ideal) ℓ) (g' : Dev Cert.AdamPointRefIdeal.nD → PrngReg), Pre_AdamPointIdeal m →
    (∀ c : Dev Cert.AdamPointIdeal.nD,
      m' ((c.tc : Thread Cert.AdamPointRefIdeal.nD Cert.AdamPointRefIdeal.τ).loc Cert.AdamPointRefIdeal.main_arg0) = m ((c.tc : Thread Cert.AdamPointIdeal.nD Cert.AdamPointIdeal.τ).loc Cert.AdamPointIdeal.main_arg0)
      ∧ m' ((c.tc : Thread Cert.AdamPointRefIdeal.nD Cert.AdamPointRefIdeal.τ).loc Cert.AdamPointRefIdeal.main_arg1) = m ((c.tc : Thread Cert.AdamPointIdeal.nD Cert.AdamPointIdeal.τ).loc Cert.AdamPointIdeal.main_arg1)
      ∧ m' ((c.tc : Thread Cert.AdamPointRefIdeal.nD Cert.AdamPointRefIdeal.τ).loc Cert.AdamPointRefIdeal.main_arg2) = m ((c.tc : Thread Cert.AdamPointIdeal.nD Cert.AdamPointIdeal.τ).loc Cert.AdamPointIdeal.main_arg2)
      ∧ m' ((c.tc : Thread Cert.AdamPointRefIdeal.nD Cert.AdamPointRefIdeal.τ).loc Cert.AdamPointRefIdeal.main_arg3) = m ((c.tc : Thread Cert.AdamPointIdeal.nD Cert.AdamPointIdeal.τ).loc Cert.AdamPointIdeal.main_arg3)
      ∧ m' ((c.tc : Thread Cert.AdamPointRefIdeal.nD Cert.AdamPointRefIdeal.τ).loc Cert.AdamPointRefIdeal.main_arg4) = m ((c.tc : Thread Cert.AdamPointIdeal.nD Cert.AdamPointIdeal.τ).loc Cert.AdamPointIdeal.main_arg4)) →
    ∃ (v0 : (c : Dev Cert.AdamPointIdeal.nD) → Buf (Elt Ideal) ((c.tc : Thread Cert.AdamPointIdeal.nD Cert.AdamPointIdeal.τ).loc Cert.AdamPointIdeal.main_v0_0)) (v1 : (c : Dev Cert.AdamPointIdeal.nD) → Buf (Elt Ideal) ((c.tc : Thread Cert.AdamPointIdeal.nD Cert.AdamPointIdeal.τ).loc Cert.AdamPointIdeal.main_v0_1)) (v2 : (c : Dev Cert.AdamPointIdeal.nD) → Buf (Elt Ideal) ((c.tc : Thread Cert.AdamPointIdeal.nD Cert.AdamPointIdeal.τ).loc Cert.AdamPointIdeal.main_v0_2)) (v3 : (c : Dev Cert.AdamPointIdeal.nD) → Buf (Elt Ideal) ((c.tc : Thread Cert.AdamPointIdeal.nD Cert.AdamPointIdeal.τ).loc Cert.AdamPointIdeal.main_v0_3)),
      θ_run (Cert.AdamPointIdeal.defs (F := Ideal)) (onTc (τ := Cert.AdamPointIdeal.τ) (Cert.AdamPointIdeal.main (F := Ideal))) ⟨m, fun _ => 0, g⟩ (fun r => ∀ c : Dev Cert.AdamPointIdeal.nD,
          r.2.mem ((c.tc : Thread Cert.AdamPointIdeal.nD Cert.AdamPointIdeal.τ).loc Cert.AdamPointIdeal.main_v0_0) = v0 c
          ∧ r.2.mem ((c.tc : Thread Cert.AdamPointIdeal.nD Cert.AdamPointIdeal.τ).loc Cert.AdamPointIdeal.main_v0_1) = v1 c
          ∧ r.2.mem ((c.tc : Thread Cert.AdamPointIdeal.nD Cert.AdamPointIdeal.τ).loc Cert.AdamPointIdeal.main_v0_2) = v2 c
          ∧ r.2.mem ((c.tc : Thread Cert.AdamPointIdeal.nD Cert.AdamPointIdeal.τ).loc Cert.AdamPointIdeal.main_v0_3) = v3 c
          ∧ r.2.mem ((c.tc : Thread Cert.AdamPointIdeal.nD Cert.AdamPointIdeal.τ).loc Cert.AdamPointIdeal.main_arg0) = m ((c.tc : Thread Cert.AdamPointIdeal.nD Cert.AdamPointIdeal.τ).loc Cert.AdamPointIdeal.main_arg0)
          ∧ r.2.mem ((c.tc : Thread Cert.AdamPointIdeal.nD Cert.AdamPointIdeal.τ).loc Cert.AdamPointIdeal.main_arg1) = m ((c.tc : Thread Cert.AdamPointIdeal.nD Cert.AdamPointIdeal.τ).loc Cert.AdamPointIdeal.main_arg1)
          ∧ r.2.mem ((c.tc : Thread Cert.AdamPointIdeal.nD Cert.AdamPointIdeal.τ).loc Cert.AdamPointIdeal.main_arg2) = m ((c.tc : Thread Cert.AdamPointIdeal.nD Cert.AdamPointIdeal.τ).loc Cert.AdamPointIdeal.main_arg2)
          ∧ r.2.mem ((c.tc : Thread Cert.AdamPointIdeal.nD Cert.AdamPointIdeal.τ).loc Cert.AdamPointIdeal.main_arg3) = m ((c.tc : Thread Cert.AdamPointIdeal.nD Cert.AdamPointIdeal.τ).loc Cert.AdamPointIdeal.main_arg3)
          ∧ r.2.mem ((c.tc : Thread Cert.AdamPointIdeal.nD Cert.AdamPointIdeal.τ).loc Cert.AdamPointIdeal.main_arg4) = m ((c.tc : Thread Cert.AdamPointIdeal.nD Cert.AdamPointIdeal.τ).loc Cert.AdamPointIdeal.main_arg4))
      ∧ θ_run (Cert.AdamPointRefIdeal.defs (F := Ideal)) (onTc (τ := Cert.AdamPointRefIdeal.τ) (Cert.AdamPointRefIdeal.main (F := Ideal))) ⟨m', fun _ => 0, g'⟩ (fun r => ∀ c : Dev Cert.AdamPointRefIdeal.nD,
          r.2.mem ((c.tc : Thread Cert.AdamPointRefIdeal.nD Cert.AdamPointRefIdeal.τ).loc Cert.AdamPointRefIdeal.main_v0) = v0 c
          ∧ r.2.mem ((c.tc : Thread Cert.AdamPointRefIdeal.nD Cert.AdamPointRefIdeal.τ).loc Cert.AdamPointRefIdeal.main_v25) = v1 c
          ∧ r.2.mem ((c.tc : Thread Cert.AdamPointRefIdeal.nD Cert.AdamPointRefIdeal.τ).loc Cert.AdamPointRefIdeal.main_v6) = v2 c
          ∧ r.2.mem ((c.tc : Thread Cert.AdamPointRefIdeal.nD Cert.AdamPointRefIdeal.τ).loc Cert.AdamPointRefIdeal.main_v12) = v3 c
          ∧ r.2.mem ((c.tc : Thread Cert.AdamPointRefIdeal.nD Cert.AdamPointRefIdeal.τ).loc Cert.AdamPointRefIdeal.main_arg0) = m' ((c.tc : Thread Cert.AdamPointRefIdeal.nD Cert.AdamPointRefIdeal.τ).loc Cert.AdamPointRefIdeal.main_arg0)
          ∧ r.2.mem ((c.tc : Thread Cert.AdamPointRefIdeal.nD Cert.AdamPointRefIdeal.τ).loc Cert.AdamPointRefIdeal.main_arg1) = m' ((c.tc : Thread Cert.AdamPointRefIdeal.nD Cert.AdamPointRefIdeal.τ).loc Cert.AdamPointRefIdeal.main_arg1)
          ∧ r.2.mem ((c.tc : Thread Cert.AdamPointRefIdeal.nD Cert.AdamPointRefIdeal.τ).loc Cert.AdamPointRefIdeal.main_arg2) = m' ((c.tc : Thread Cert.AdamPointRefIdeal.nD Cert.AdamPointRefIdeal.τ).loc Cert.AdamPointRefIdeal.main_arg2)
          ∧ r.2.mem ((c.tc : Thread Cert.AdamPointRefIdeal.nD Cert.AdamPointRefIdeal.τ).loc Cert.AdamPointRefIdeal.main_arg3) = m' ((c.tc : Thread Cert.AdamPointRefIdeal.nD Cert.AdamPointRefIdeal.τ).loc Cert.AdamPointRefIdeal.main_arg3)
          ∧ r.2.mem ((c.tc : Thread Cert.AdamPointRefIdeal.nD Cert.AdamPointRefIdeal.τ).loc Cert.AdamPointRefIdeal.main_arg4) = m' ((c.tc : Thread Cert.AdamPointRefIdeal.nD Cert.AdamPointRefIdeal.τ).loc Cert.AdamPointRefIdeal.main_arg4))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v0) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v6) = v2 c
          ∧ r.2.mem ((c.tc : Thread Cert.AdamGateRefIdeal.nD Cert.AdamGateRefIdeal.τ).loc Cert.AdamGateRefIdeal.main_v12) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v48) = v0 c
          ∧ r.2.mem ((c.tc : Thread Cert.NormRefIdeal.nD Cert.NormRefIdeal.τ).loc Cert.NormRefIdeal.main_v31) = v1 c
          ∧ r.2.mem ((c.tc : Thread Cert.NormRefIdeal.nD Cert.NormRefIdeal.τ).loc Cert.NormRefIdeal.main_v26) = v2 c
          ∧ r.2.mem ((c.tc : Thread Cert.NormRefIdeal.nD Cert.NormRefIdeal.τ).loc Cert.NormRefIdeal.main_v23) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v5) = v0 c
          ∧ r.2.mem ((c.tc : Thread Cert.AdamAdaRefIdeal.nD Cert.AdamAdaRefIdeal.τ).loc Cert.AdamAdaRefIdeal.main_v29) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_v16) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def Claim : Prop :=
  ∃ (hKernel : Cert.Kernel.Facts) (hKernelIdeal : Cert.KernelIdeal.Facts) (hUp : Cert.Up.Facts) (hUpIdeal : Cert.UpIdeal.Facts) (hUpRefIdeal : Cert.UpRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamPoint : Cert.AdamPoint.Facts) (hAdamPointIdeal : Cert.AdamPointIdeal.Facts) (hAdamPointRefIdeal : Cert.AdamPointRefIdeal.Facts) (hAdamGate : Cert.AdamGate.Facts) (hAdamGateIdeal : Cert.AdamGateIdeal.Facts) (hAdamGateRefIdeal : Cert.AdamGateRefIdeal.Facts) (hAdamIn : Cert.AdamIn.Facts) (hAdamInIdeal : Cert.AdamInIdeal.Facts) (hAdamInRefIdeal : Cert.AdamInRefIdeal.Facts) (hNorm : Cert.Norm.Facts) (hNormIdeal : Cert.NormIdeal.Facts) (hNormRefIdeal : Cert.NormRefIdeal.Facts) (hAdamAda : Cert.AdamAda.Facts) (hAdamAdaIdeal : Cert.AdamAdaIdeal.Facts) (hAdamAdaRefIdeal : Cert.AdamAdaRefIdeal.Facts),
    quiescent_Kernel (hKernel := hKernel)
    ∧ quiescent_KernelIdeal (hKernelIdeal := hKernelIdeal)
    ∧ quiescent_Up (hUp := hUp)
    ∧ quiescent_UpIdeal (hUpIdeal := hUpIdeal)
    ∧ quiescent_UpRefIdeal (hUpRefIdeal := hUpRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamPoint (hAdamPoint := hAdamPoint)
    ∧ quiescent_AdamPointIdeal (hAdamPointIdeal := hAdamPointIdeal)
    ∧ quiescent_AdamPointRefIdeal (hAdamPointRefIdeal := hAdamPointRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_Norm (hNorm := hNorm)
    ∧ quiescent_NormIdeal (hNormIdeal := hNormIdeal)
    ∧ quiescent_NormRefIdeal (hNormRefIdeal := hNormRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ preserves_Kernel_KernelIdeal
    ∧ preserves_Up_UpIdeal
    ∧ algebraic_UpIdeal_UpRefIdeal (hUpIdeal := hUpIdeal) (hUpRefIdeal := hUpRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamPoint_AdamPointIdeal
    ∧ algebraic_AdamPointIdeal_AdamPointRefIdeal (hAdamPointIdeal := hAdamPointIdeal) (hAdamPointRefIdeal := hAdamPointRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamIn_AdamInIdeal
    ∧ algebraic_AdamInIdeal_AdamInRefIdeal (hAdamInIdeal := hAdamInIdeal) (hAdamInRefIdeal := hAdamInRefIdeal)
    ∧ preserves_Norm_NormIdeal
    ∧ algebraic_NormIdeal_NormRefIdeal (hNormIdeal := hNormIdeal) (hNormRefIdeal := hNormRefIdeal)
    ∧ preserves_AdamAda_AdamAdaIdeal
    ∧ algebraic_AdamAdaIdeal_AdamAdaRefIdeal (hAdamAdaIdeal := hAdamAdaIdeal) (hAdamAdaRefIdeal := hAdamAdaRefIdeal)
-- ==== Kernel.lean ====
abbrev S2048x4x64 : Shape := ⟨3, ![2048, 4, 64]⟩
abbrev S2048x4 : Shape := ⟨2, ![2048, 4]⟩
abbrev S2048x256 : Shape := ⟨2, ![2048, 256]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S2048 : Shape := ⟨1, ![2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S4x64x2048 : Shape := ⟨3, ![4, 64, 2048]⟩
abbrev S2048x1664 : Shape := ⟨2, ![2048, 1664]⟩
abbrev S2048x2432 : Shape := ⟨2, ![2048, 2432]⟩
abbrev S2048x128 : Shape := ⟨2, ![2048, 128]⟩
abbrev S128x2048 : Shape := ⟨2, ![128, 2048]⟩
abbrev S8x2048 : Shape := ⟨2, ![8, 2048]⟩
abbrev S256x256 : Shape := ⟨2, ![256, 256]⟩
abbrev S256x128 : Shape := ⟨2, ![256, 128]⟩
abbrev S512x128 : Shape := ⟨2, ![512, 128]⟩
abbrev S256x1 : Shape := ⟨2, ![256, 1]⟩
abbrev S1x512 : Shape := ⟨2, ![1, 512]⟩
abbrev S256x512 : Shape := ⟨2, ![256, 512]⟩
abbrev S256 : Shape := ⟨1, ![256]⟩
abbrev S512 : Shape := ⟨1, ![512]⟩
abbrev S1024x128 : Shape := ⟨2, ![1024, 128]⟩
abbrev S1x1024 : Shape := ⟨2, ![1, 1024]⟩
abbrev S256x1024 : Shape := ⟨2, ![256, 1024]⟩
abbrev S1024 : Shape := ⟨1, ![1024]⟩
abbrev S1536x128 : Shape := ⟨2, ![1536, 128]⟩
abbrev S1x1536 : Shape := ⟨2, ![1, 1536]⟩
abbrev S256x1536 : Shape := ⟨2, ![256, 1536]⟩
abbrev S1536 : Shape := ⟨1, ![1536]⟩
abbrev S1x2048 : Shape := ⟨2, ![1, 2048]⟩
abbrev S256x2048 : Shape := ⟨2, ![256, 2048]⟩

abbrev nBuf : Space → Nat
  | .hbm => 99
  | .vmem => 22
  | .smem => 0
  | _ => 0

abbrev bufTy : (tb : Table) → Fin (tcTables nBuf tb) → BufTy
  | .hbm, ⟨0, _⟩ => ⟨S2048x4x64, .f32⟩
  | .hbm, ⟨1, _⟩ => ⟨S2048x4x64, .f32⟩
  | .hbm, ⟨2, _⟩ => ⟨S2048x4x64, .f32⟩
  | .hbm, ⟨3, _⟩ => ⟨S2048x4, .f32⟩
  | .hbm, ⟨4, _⟩ => ⟨S2048x256, .f32⟩
  | .hbm, ⟨5, _⟩ => ⟨S4x2048x2048, .f32⟩
  | .hbm, ⟨6, _⟩ => ⟨S_, .f32⟩
  | .hbm, ⟨7, _⟩ => ⟨S4x2048x2048, .f32⟩
  | .hbm, ⟨8, _⟩ => ⟨S4x2048x2048, .f32⟩
  | .hbm, ⟨9, _⟩ => ⟨S4x2048, .f32⟩
  | .hbm, ⟨10, _⟩ => ⟨S4x2048x1, .f32⟩
  | .hbm, ⟨11, _⟩ => ⟨S4x2048x2048, .f32⟩
  | .hbm, ⟨12, _⟩ => ⟨S4x2048x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S4x2048x2048, .f32⟩
  | .hbm, ⟨17, _⟩ => ⟨S2048, .i32⟩
  | .hbm, ⟨18, _⟩ => ⟨S1x1x2048, .i32⟩
  | .hbm, ⟨19, _⟩ => ⟨S1x2048x1, .i32⟩
  | .hbm, ⟨20, _⟩ => ⟨S1x2048x2048, .i32⟩
  | .hbm, ⟨21, _⟩ => ⟨S1x2048x2048, .i32⟩
  | .hbm, ⟨22, _⟩ => ⟨S1x2048x2048, .i1⟩
  | .hbm, ⟨23, _⟩ => ⟨S_, .f32⟩
  | .hbm, ⟨24, _⟩ => ⟨S_, .f32⟩
  | .hbm, ⟨25, _⟩ => ⟨S4x2048x2048, .i1⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S4x2048, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S4x2048, .f32⟩
  | .hbm, ⟨49, _⟩ => ⟨S4x1x2048, .f32⟩
  | .hbm, ⟨50, _⟩ => ⟨S4x2048x2048, .f32⟩
  | .hbm, ⟨51, _⟩ => ⟨S4x2048x2048, .f32⟩
  | .hbm, ⟨52, _⟩ => ⟨S2048, .i32⟩
  | .hbm, ⟨53, _⟩ => ⟨S1x1x2048, .i32⟩
  | .hbm, ⟨54, _⟩ => ⟨S1x2048x1, .i32⟩
  | .hbm, ⟨55, _⟩ => ⟨S1x2048x2048, .i32⟩
  | .hbm, ⟨56, _⟩ => ⟨S1x2048x2048, .i32⟩
  | .hbm, ⟨57, _⟩ => ⟨S1x2048x2048, .i1⟩
  | .hbm, ⟨58, _⟩ => ⟨S_, .f32⟩
  | .hbm, ⟨59, _⟩ => ⟨S_, .f32⟩
  | .hbm, ⟨60, _⟩ => ⟨S4x2048x2048, .i1⟩
  | .hbm, ⟨61, _⟩ => ⟨S4x2048x2048, .f32⟩
  | .hbm, ⟨62, _⟩ => ⟨S4x2048x2048, .f32⟩
  | .hbm, ⟨63, _⟩ => ⟨S_, .f32⟩
  | .hbm, ⟨64, _⟩ => ⟨S4x2048, .f32⟩
  | .hbm, ⟨65, _⟩ => ⟨S_, .f32⟩
  | .hbm, ⟨66, _⟩ => ⟨S4x2048, .f32⟩
  | .hbm, ⟨67, _⟩ => ⟨S4x2048, .f32⟩
  | .hbm, ⟨68, _⟩ => ⟨S4x2048x1, .f32⟩
  | .hbm, ⟨69, _⟩ => ⟨S4x2048x2048, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S4x2048, .f32⟩
  | .hbm, ⟨74, _⟩ => ⟨S4x2048x1, .f32⟩
  | .hbm, ⟨75, _⟩ => ⟨S4x2048x2048, .f32⟩
  | .hbm, ⟨76, _⟩ => ⟨S4x2048x2048, .f32⟩
  | .hbm, ⟨77, _⟩ => ⟨S4x64x2048, .f32⟩
  | .hbm, ⟨78, _⟩ => ⟨S2048x4x64, .f32⟩
  | .hbm, ⟨79, _⟩ => ⟨S2048x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S_, .f32⟩
  | .hbm, ⟨84, _⟩ => ⟨S2048x1664, .f32⟩
  | .hbm, ⟨85, _⟩ => ⟨S2048x2432, .f32⟩
  | .hbm, ⟨86, _⟩ => ⟨S_, .i32⟩
  | .hbm, ⟨87, _⟩ => ⟨S_, .f32⟩
  | .hbm, ⟨88, _⟩ => ⟨S2048x128, .f32⟩
  | .hbm, ⟨89, _⟩ => ⟨S128x2048, .f32⟩
  | .hbm, ⟨90, _⟩ => ⟨S2048x4, .f32⟩
  | .hbm, ⟨91, _⟩ => ⟨S_, .i32⟩
  | .hbm, ⟨92, _⟩ => ⟨S_, .f32⟩
  | .hbm, ⟨93, _⟩ => ⟨S2048x128, .f32⟩
  | .hbm, ⟨94, _⟩ => ⟨S2048x256, .bf16⟩
  | .hbm, ⟨95, _⟩ => ⟨S2048x256, .bf16⟩
  | .hbm, ⟨96, _⟩ => ⟨S2048x256, .bf16⟩
  | .hbm, ⟨97, _⟩ => ⟨S2048x128, .f32⟩
  | .hbm, ⟨98, _⟩ => ⟨S8x2048, .f32⟩
  | .local _ .vmem, ⟨0, _⟩ => ⟨S256x256, .f32⟩
  | .local _ .vmem, ⟨1, _⟩ => ⟨S256x256, .f32⟩
  | .local _ .vmem, ⟨2, _⟩ => ⟨S2048x256, .f32⟩
  | .local _ .vmem, ⟨3, _⟩ => ⟨S2048x256, .f32⟩
  | .local _ .vmem, ⟨4, _⟩ => ⟨S256x128, .f32⟩
  | .local _ .vmem, ⟨5, _⟩ => ⟨S256x128, .f32⟩
  | .local _ .vmem, ⟨6, _⟩ => ⟨S8x2048, .f32⟩
  | .local _ .vmem, ⟨7, _⟩ => ⟨S256x128, .f32⟩
  | .local _ .vmem, ⟨8, _⟩ => ⟨S256x128, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .bf16⟩
  | .local _ .vmem, ⟨14, _⟩ => ⟨S256x256, .bf16⟩
  | .local _ .vmem, ⟨15, _⟩ => ⟨S2048x256, .bf16⟩
  | .local _ .vmem, ⟨16, _⟩ => ⟨S2048x256, .bf16⟩
  | .local _ .vmem, ⟨17, _⟩ => ⟨S256x128, .f32⟩
  | .local _ .vmem, ⟨18, _⟩ => ⟨S256x128, .f32⟩
  | .local _ .vmem, ⟨19, _⟩ => ⟨S8x2048, .f32⟩
  | .local _ .vmem, ⟨20, _⟩ => ⟨S2048x256, .f32⟩
  | .local _ .vmem, ⟨21, _⟩ => ⟨S2048x256, .f32⟩
  | _, _ => ⟨S2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_c : Ref sig .tc := ⟨.hbm, 86, rfl⟩
abbrev main_call2_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_9 : Ref sig .tc := ⟨.hbm, 91, rfl⟩
abbrev main_call3_v0 : Ref sig .tc := ⟨.hbm, 92, rfl⟩
abbrev main_v68 : Ref sig .tc := ⟨.hbm, 93, rfl⟩
abbrev main_v69_0 : Ref sig .tc := ⟨.hbm, 94, rfl⟩
abbrev main_v69_1 : Ref sig .tc := ⟨.hbm, 95, rfl⟩
abbrev main_v69_2 : Ref sig .tc := ⟨.hbm, 96, rfl⟩
abbrev main_v69_3 : Ref sig .tc := ⟨.hbm, 97, rfl⟩
abbrev main_v69_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg0 c2_i32
  let c0_i32_5 : BitVec 32 := 0#32
  let v16 : BitVec 1 := Scalar.cmpi .ne v15 c0_i32_5
  let v17 : BitVec 1 := Scalar.andi v14 v16
  let v3 : BitVec 32 := Scalar.divsi arg0 c2_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32_9 : BitVec 32 := 0#32
  let v24 : BitVec 1 := Scalar.cmpi .sgt arg0 c0_i32_9
  let v25 : BitVec 32 := Scalar.extui v24
  let c0_i32_10 : BitVec 32 := 0#32
  let v26 : BitVec 1 := Scalar.cmpi .slt arg0 c0_i32_10
  let v27 : BitVec 32 := Scalar.extui v26
  let v28 : BitVec 32 := Scalar.subi v25 v27
  let c2_i32_8 : BitVec 32 := 2#32
  let c0_i32_11 : BitVec 32 := 0#32
  let v29 : BitVec 1 := Scalar.cmpi .sgt c2_i32_8 c0_i32_11
  let v30 : BitVec 32 := Scalar.extui v29
  let c0_i32_12 : BitVec 32 := 0#32
  let v31 : BitVec 1 := Scalar.cmpi .slt c2_i32_8 c0_i32_12
  let v32 : BitVec 32 := Scalar.extui v31
  let v33 : BitVec 32 := Scalar.subi v30 v32
  let v34 : BitVec 1 := Scalar.cmpi .ne v28 v33
  let v35 : BitVec 32 := Scalar.remsi arg0 c2_i32_8
  let c0_i32_13 : BitVec 32 := 0#32
  let v36 : BitVec 1 := Scalar.cmpi .ne v35 c0_i32_13
  let v37 : BitVec 1 := Scalar.andi v34 v36
  let v23 : BitVec 32 := Scalar.divsi arg0 c2_i32_8
  let c1_i32_14 : BitVec 32 := 1#32
  let v38 : BitVec 32 := Scalar.subi v23 c1_i32_14
  let v39 : BitVec 32 := Scalar.select v37 v38 v23
  let c1_i32_15 : BitVec 32 := 1#32
  let v40 : BitVec 1 := Scalar.cmpi .eq v39 c1_i32_15
  let v41 : BitVec 32 := Scalar.extui v40
  let c0_i32_16 : BitVec 32 := 0#32
  let v42 : BitVec 1 := Scalar.cmpi .ne v41 c0_i32_16
  v42

def k0_cond4 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .slt arg0 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi arg0 c2_i32_17
  let c0_i32_22 : BitVec 32 := 0#32
  let v56 : BitVec 1 := Scalar.cmpi .ne v55 c0_i32_22
  let v57 : BitVec 1 := Scalar.andi v54 v56
  let v43 : BitVec 32 := Scalar.divsi arg0 c2_i32_17
  let c1_i32_23 : BitVec 32 := 1#32
  let v58 : BitVec 32 := Scalar.subi v43 c1_i32_23
  let v59 : BitVec 32 := Scalar.select v57 v58 v43
  let c2_i32_24 : BitVec 32 := 2#32
  let v60 : BitVec 1 := Scalar.cmpi .eq v59 c2_i32_24
  let v61 : BitVec 32 := Scalar.extui v60
  let c0_i32_25 : BitVec 32 := 0#32
  let v62 : BitVec 1 := Scalar.cmpi .ne v61 c0_i32_25
  v62

def k0_cond5 (i : grid0.Coords) : BitVec 1 :=
  let arg0 : BitVec 32 := BitVec.ofNat 32 (i 0).val
  let c0_i32_27 : BitVec 32 := 0#32
  let v64 : BitVec 1 := Scalar.cmpi .sgt arg0 c0_i32_27
  let v65 : BitVec 32 := Scalar.extui v64
  let c0_i32_28 : BitVec 32 := 0#32
  let v66 : BitVec 1 := Scalar.cmpi .slt arg0 c0_i32_28
  let v67 : BitVec 32 := Scalar.extui v66
  let v68 : BitVec 32 := Scalar.subi v65 v67
  let c2_i32_26 : BitVec 32 := 2#32
  let c0_i32_29 : BitVec 32 := 0#32
  let v69 : BitVec 1 := Scalar.cmpi .sgt c2_i32_26 c0_i32_29
  let v70 : BitVec 32 := Scalar.extui v69
  let c0_i32_30 : BitVec 32 := 0#32
  let v71 : BitVec 1 := Scalar.cmpi .slt c2_i32_26 c0_i32_30
  let v72 : BitVec 32 := Scalar.extui v71
  let v73 : BitVec 32 := Scalar.subi v70 v72
  let v74 : BitVec 1 := Scalar.cmpi .ne v68 v73
  let v75 : BitVec 32 := Scalar.remsi arg0 c2_i32_26
  let c0_i32_31 : BitVec 32 := 0#32
  let v76 : BitVec 1 := Scalar.cmpi .ne v75 c0_i32_31
  let v77 : BitVec 1 := Scalar.andi v74 v76
  let v63 : BitVec 32 := Scalar.divsi arg0 c2_i32_26
  let c1_i32_32 : BitVec 32 := 1#32
  let v78 : BitVec 32 := Scalar.subi v63 c1_i32_32
  let v79 : BitVec 32 := Scalar.select v77 v78 v63
  let c3_i32 : BitVec 32 := 3#32
  let v80 : BitVec 1 := Scalar.cmpi .eq v79 c3_i32
  let v81 : BitVec 32 := Scalar.extui v80
  let c0_i32_33 : BitVec 32 := 0#32
  let v82 : BitVec 1 := Scalar.cmpi .ne v81 c0_i32_33
  v82

def k0_cond6 (i : grid0.Coords) : BitVec 1 :=
  let arg0 : BitVec 32 := BitVec.ofNat 32 (i 0).val
  let c7_i32 : BitVec 32 := 7#32
  let v83 : BitVec 1 := Scalar.cmpi .eq arg0 c7_i32
  let v84 : BitVec 32 := Scalar.extui v83
  let c0_i32_34 : BitVec 32 := 0#32
  let v85 : BitVec 1 := Scalar.cmpi .ne v84 c0_i32_34
  v85

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== Up.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S2048x5632, .f32⟩
  | .local _ .vmem, ⟨0, _⟩ => ⟨S2048x1024, .f32⟩
  | .local _ .vmem, ⟨1, _⟩ => ⟨S1x1024x1408, .f32⟩
  | .local _ .vmem, ⟨2, _⟩ => ⟨S1x1024x1408, .f32⟩
  | .local _ .vmem, ⟨3, _⟩ => ⟨S2048x1408, .f32⟩
  | .local _ .vmem, ⟨4, _⟩ => ⟨S2048x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDw.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S4x1024x1408, .bf16⟩
  | .local _ .vmem, ⟨0, _⟩ => ⟨S2048x1024, .f32⟩
  | .local _ .vmem, ⟨1, _⟩ => ⟨S2048x1408, .f32⟩
  | .local _ .vmem, ⟨2, _⟩ => ⟨S2048x1408, .f32⟩
  | .local _ .vmem, ⟨3, _⟩ => ⟨S2048x1408, .f32⟩
  | .local _ .vmem, ⟨4, _⟩ => ⟨S2048x1408, .f32⟩
  | .local _ .vmem, ⟨5, _⟩ => ⟨S1x1024x1408, .bf16⟩
  | .local _ .vmem, ⟨6, _⟩ => ⟨S1x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpDwRefIdeal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S2048x1024, .f32⟩
  | .hbm, ⟨7, _⟩ => ⟨S1024x5632, .bf16⟩
  | .hbm, ⟨8, _⟩ => ⟨S1024x1408, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1x1024x1408, .bf16⟩
  | .hbm, ⟨13, _⟩ => ⟨S1x1024x1408, .bf16⟩
  | .hbm, ⟨14, _⟩ => ⟨S1x1024x1408, .bf16⟩
  | .hbm, ⟨15, _⟩ => ⟨S1x1024x1408, .bf16⟩
  | .hbm, ⟨16, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== UpDx.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S1024x4x1408 : Shape := ⟨3, ![1024, 4, 1408]⟩
abbrev S4x1024x1408 : Shape := ⟨3, ![4, 1024, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S1024x4x1408, .f32⟩
  | .hbm, ⟨6, _⟩ => ⟨S4x1024x1408, .f32⟩
  | .hbm, ⟨7, _⟩ => ⟨S2048x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .f32⟩
  | .local _ .vmem, ⟨3, _⟩ => ⟨S1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .sge arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpDxRefIdeal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .local _ .vmem, ⟨0, _⟩ => ⟨S1024x2816, .f32⟩
  | .local _ .vmem, ⟨1, _⟩ => ⟨S1024x2816, .f32⟩
  | .local _ .vmem, ⟨2, _⟩ => ⟨S2816x1024, .f32⟩
  | .local _ .vmem, ⟨3, _⟩ => ⟨S1024x1024, .f32⟩
  | .local _ .vmem, ⟨4, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDw.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2816x1024, .bf16⟩
  | .local _ .vmem, ⟨0, _⟩ => ⟨S2048x2816, .f32⟩
  | .local _ .vmem, ⟨1, _⟩ => ⟨S2048x1024, .f32⟩
  | .local _ .vmem, ⟨2, _⟩ => ⟨S2816x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownDwRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2048x2816, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDx.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .f32⟩
  | .local _ .vmem, ⟨0, _⟩ => ⟨S1024x1024, .f32⟩
  | .local _ .vmem, ⟨1, _⟩ => ⟨S1024x1024, .f32⟩
  | .local _ .vmem, ⟨2, _⟩ => ⟨S2816x1024, .f32⟩
  | .local _ .vmem, ⟨3, _⟩ => ⟨S1024x2816, .f32⟩
  | .local _ .vmem, ⟨4, _⟩ => ⟨S1024x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownDxRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutDwRefIdeal.lean ====
abbrev S2048x1024 : Shape := ⟨2, ![2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDxRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S2048x1024 : Shape := ⟨2, ![2048, 1024]⟩
abbrev S2432x1024 : Shape := ⟨2, ![2432, 1024]⟩
abbrev S2048x2432 : Shape := ⟨2, ![2048, 2432]⟩
abbrev S1024x1024 : Shape := ⟨2, ![1024, 1024]⟩
abbrev S1024x2432 : Shape := ⟨2, ![1024, 2432]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2432x1024, .f32⟩
  | .hbm, ⟨2, _⟩ => ⟨S2048x2432, .f32⟩
  | .local _ .vmem, ⟨0, _⟩ => ⟨S1024x1024, .f32⟩
  | .local _ .vmem, ⟨1, _⟩ => ⟨S1024x1024, .f32⟩
  | .local _ .vmem, ⟨2, _⟩ => ⟨S2432x1024, .f32⟩
  | .local _ .vmem, ⟨3, _⟩ => ⟨S1024x2432, .f32⟩
  | .local _ .vmem, ⟨4, _⟩ => ⟨S1024x2432, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2432x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InRefIdeal.lean ====
abbrev S2048x1024 : Shape := ⟨2, ![2048, 1024]⟩
abbrev S2432x1024 : Shape := ⟨2, ![2432, 1024]⟩
abbrev S1024x2432 : Shape := ⟨2, ![1024, 2432]⟩
abbrev S2048x2432 : Shape := ⟨2, ![2048, 2432]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2432x1024, .f32⟩
  | .hbm, ⟨2, _⟩ => ⟨S1024x2432, .f32⟩
  | .hbm, ⟨3, _⟩ => ⟨S2048x2432, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDw.lean ====
abbrev S2048x1024 : Shape := ⟨2, ![2048, 1024]⟩
abbrev S2432x1024 : Shape := ⟨2, ![2432, 1024]⟩
abbrev S2048x256 : Shape := ⟨2, ![2048, 256]⟩
abbrev S2048x128 : Shape := ⟨2, ![2048, 128]⟩
abbrev S2048x2432 : Shape := ⟨2, ![2048, 2432]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2432x1024, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x128, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x128, .f32⟩
  | .hbm, ⟨10, _⟩ => ⟨S2048x128, .f32⟩
  | .hbm, ⟨11, _⟩ => ⟨S2048x256, .f32⟩
  | .hbm, ⟨12, _⟩ => ⟨S2048x256, .f32⟩
  | .hbm, ⟨13, _⟩ => ⟨S2432x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x128, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x128, .f32⟩
  | .local _ .vmem, ⟨8, _⟩ => ⟨S2048x128, .f32⟩
  | .local _ .vmem, ⟨9, _⟩ => ⟨S2048x256, .f32⟩
  | .local _ .vmem, ⟨10, _⟩ => ⟨S2048x256, .f32⟩
  | .local _ .vmem, ⟨11, _⟩ => ⟨S2048x1024, .f32⟩
  | .local _ .vmem, ⟨12, _⟩ => ⟨S2432x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2432x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InDwRefIdeal.lean ====
abbrev S2048x1024 : Shape := ⟨2, ![2048, 1024]⟩
abbrev S2432x1024 : Shape := ⟨2, ![2432, 1024]⟩
abbrev S2048x256 : Shape := ⟨2, ![2048, 256]⟩
abbrev S2048x128 : Shape := ⟨2, ![2048, 128]⟩
abbrev S1024x2432 : Shape := ⟨2, ![1024, 2432]⟩
abbrev S2048x2432 : Shape := ⟨2, ![2048, 2432]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2432x1024, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x128, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x128, .f32⟩
  | .hbm, ⟨10, _⟩ => ⟨S2048x128, .f32⟩
  | .hbm, ⟨11, _⟩ => ⟨S2048x256, .f32⟩
  | .hbm, ⟨12, _⟩ => ⟨S2048x256, .f32⟩
  | .hbm, ⟨13, _⟩ => ⟨S1024x2432, .f32⟩
  | .hbm, ⟨14, _⟩ => ⟨S2048x2432, .f32⟩
  | .hbm, ⟨15, _⟩ => ⟨S2048x2432, .f32⟩
  | .hbm, ⟨16, _⟩ => ⟨S2432x1024, .f32⟩
  | .hbm, ⟨17, _⟩ => ⟨S1024x2432, .f32⟩
  | .hbm, ⟨18, _⟩ => ⟨S2048x1024, .f32⟩
  | .hbm, ⟨19, _⟩ => ⟨S2432x1024, .f32⟩
  | .hbm, ⟨20, _⟩ => ⟨S2432x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== InDx.lean ====
abbrev S2048x1024 : Shape := ⟨2, ![2048, 1024]⟩
abbrev S2432x1024 : Shape := ⟨2, ![2432, 1024]⟩
abbrev S2048x256 : Shape := ⟨2, ![2048, 256]⟩
abbrev S2048x128 : Shape := ⟨2, ![2048, 128]⟩
abbrev S1024x256 : Shape := ⟨2, ![1024, 256]⟩
abbrev S1024x128 : Shape := ⟨2, ![1024, 128]⟩
abbrev S1024x1024 : Shape := ⟨2, ![1024, 1024]⟩
abbrev S1024x2432 : Shape := ⟨2, ![1024, 2432]⟩

abbrev nBuf : Space → Nat
  | .hbm => 14
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2432x1024, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x128, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x128, .f32⟩
  | .hbm, ⟨10, _⟩ => ⟨S2048x128, .f32⟩
  | .hbm, ⟨11, _⟩ => ⟨S2048x256, .f32⟩
  | .hbm, ⟨12, _⟩ => ⟨S2048x256, .f32⟩
  | .hbm, ⟨13, _⟩ => ⟨S2048x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x128, .f32⟩
  | .local _ .vmem, ⟨7, _⟩ => ⟨S1024x128, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S2432x1024, .f32⟩
  | .local _ .vmem, ⟨23, _⟩ => ⟨S1024x1024, .f32⟩
  | .local _ .vmem, ⟨24, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S2432x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InDxRefIdeal.lean ====
abbrev S2048x1024 : Shape := ⟨2, ![2048, 1024]⟩
abbrev S2432x1024 : Shape := ⟨2, ![2432, 1024]⟩
abbrev S2048x256 : Shape := ⟨2, ![2048, 256]⟩
abbrev S2048x128 : Shape := ⟨2, ![2048, 128]⟩
abbrev S1024x2432 : Shape := ⟨2, ![1024, 2432]⟩
abbrev S2048x2432 : Shape := ⟨2, ![2048, 2432]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2432x1024, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x128, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x128, .f32⟩
  | .hbm, ⟨10, _⟩ => ⟨S2048x128, .f32⟩
  | .hbm, ⟨11, _⟩ => ⟨S2048x256, .f32⟩
  | .hbm, ⟨12, _⟩ => ⟨S2048x256, .f32⟩
  | .hbm, ⟨13, _⟩ => ⟨S1024x2432, .f32⟩
  | .hbm, ⟨14, _⟩ => ⟨S2048x2432, .f32⟩
  | .hbm, ⟨15, _⟩ => ⟨S2048x2432, .f32⟩
  | .hbm, ⟨16, _⟩ => ⟨S2432x1024, .f32⟩
  | .hbm, ⟨17, _⟩ => ⟨S1024x2432, .f32⟩
  | .hbm, ⟨18, _⟩ => ⟨S2048x1024, .f32⟩
  | .hbm, ⟨19, _⟩ => ⟨S2432x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== AdamOut.lean ====
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutIdeal.lean ====
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S1408x1024 : Shape := ⟨2, ![1408, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownIdeal.lean ====
abbrev S1408x1024 : Shape := ⟨2, ![1408, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S62x64 : Shape := ⟨2, ![62, 64]⟩

abbrev nBuf : Space → Nat
  | .hbm => 9
  | .vmem => 9
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S62x64, .f32⟩
  | .hbm, ⟨8, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | .local _ .vmem, ⟨7, _⟩ => ⟨S62x64, .f32⟩
  | .local _ .vmem, ⟨8, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S62x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvIdeal.lean ====
abbrev S62x64 : Shape := ⟨2, ![62, 64]⟩

abbrev nBuf : Space → Nat
  | .hbm => 9
  | .vmem => 9
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S62x64, .f32⟩
  | .hbm, ⟨8, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | .local _ .vmem, ⟨7, _⟩ => ⟨S62x64, .f32⟩
  | .local _ .vmem, ⟨8, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S62x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvRefIdeal.lean ====
abbrev S62x64 : Shape := ⟨2, ![62, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .hbm, ⟨7, _⟩ => ⟨S_, .f32⟩
  | .hbm, ⟨8, _⟩ => ⟨S62x64, .f32⟩
  | .hbm, ⟨9, _⟩ => ⟨S62x64, .f32⟩
  | .hbm, ⟨10, _⟩ => ⟨S_, .f32⟩
  | .hbm, ⟨11, _⟩ => ⟨S62x64, .f32⟩
  | .hbm, ⟨12, _⟩ => ⟨S62x64, .f32⟩
  | .hbm, ⟨13, _⟩ => ⟨S62x64, .f32⟩
  | .hbm, ⟨14, _⟩ => ⟨S_, .f32⟩
  | .hbm, ⟨15, _⟩ => ⟨S62x64, .f32⟩
  | .hbm, ⟨16, _⟩ => ⟨S62x64, .f32⟩
  | .hbm, ⟨17, _⟩ => ⟨S62x64, .f32⟩
  | .hbm, ⟨18, _⟩ => ⟨S_, .f32⟩
  | .hbm, ⟨19, _⟩ => ⟨S62x64, .f32⟩
  | .hbm, ⟨20, _⟩ => ⟨S62x64, .f32⟩
  | .hbm, ⟨21, _⟩ => ⟨S62x64, .f32⟩
  | .hbm, ⟨22, _⟩ => ⟨S_, .f32⟩
  | .hbm, ⟨23, _⟩ => ⟨S62x64, .f32⟩
  | .hbm, ⟨24, _⟩ => ⟨S62x64, .f32⟩
  | .hbm, ⟨25, _⟩ => ⟨S_, .f32⟩
  | .hbm, ⟨26, _⟩ => ⟨S62x64, .f32⟩
  | .hbm, ⟨27, _⟩ => ⟨S62x64, .f32⟩
  | .hbm, ⟨28, _⟩ => ⟨S62x64, .f32⟩
  | .hbm, ⟨29, _⟩ => ⟨S_, .f32⟩
  | .hbm, ⟨30, _⟩ => ⟨S62x64, .f32⟩
  | .hbm, ⟨31, _⟩ => ⟨S62x64, .f32⟩
  | .hbm, ⟨32, _⟩ => ⟨S62x64, .f32⟩
  | .hbm, ⟨33, _⟩ => ⟨S_, .f32⟩
  | .hbm, ⟨34, _⟩ => ⟨S62x64, .f32⟩
  | .hbm, ⟨35, _⟩ => ⟨S62x64, .f32⟩
  | .hbm, ⟨36, _⟩ => ⟨S62x64, .f32⟩
  | .hbm, ⟨37, _⟩ => ⟨S_, .f32⟩
  | .hbm, ⟨38, _⟩ => ⟨S62x64, .f32⟩
  | .hbm, ⟨39, _⟩ => ⟨S62x64, .f32⟩
  | _, _ => ⟨S62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPoint.lean ====
abbrev S128x256 : Shape := ⟨2, ![128, 256]⟩

abbrev nBuf : Space → Nat
  | .hbm => 9
  | .vmem => 9
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPointIdeal.lean ====
abbrev S128x256 : Shape := ⟨2, ![128, 256]⟩

abbrev nBuf : Space → Nat
  | .hbm => 9
  | .vmem => 9
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPointRefIdeal.lean ====
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGate.lean ====
abbrev S6x1408 : Shape := ⟨2, ![6, 1408]⟩

abbrev nBuf : Space → Nat
  | .hbm => 9
  | .vmem => 9
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | .local _ .vmem, ⟨7, _⟩ => ⟨S6x1408, .f32⟩
  | .local _ .vmem, ⟨8, _⟩ => ⟨S6x1408, .f32⟩
  | _, _ => ⟨S6x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S6x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamGateRefIdeal.lean ====
abbrev S6x1408 : Shape := ⟨2, ![6, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S_, .f32⟩
  | .hbm, ⟨8, _⟩ => ⟨S6x1408, .f32⟩
  | .hbm, ⟨9, _⟩ => ⟨S6x1408, .f32⟩
  | .hbm, ⟨10, _⟩ => ⟨S_, .f32⟩
  | .hbm, ⟨11, _⟩ => ⟨S6x1408, .f32⟩
  | .hbm, ⟨12, _⟩ => ⟨S6x1408, .f32⟩
  | .hbm, ⟨13, _⟩ => ⟨S6x1408, .f32⟩
  | .hbm, ⟨14, _⟩ => ⟨S_, .f32⟩
  | .hbm, ⟨15, _⟩ => ⟨S6x1408, .f32⟩
  | .hbm, ⟨16, _⟩ => ⟨S6x1408, .f32⟩
  | .hbm, ⟨17, _⟩ => ⟨S6x1408, .f32⟩
  | .hbm, ⟨18, _⟩ => ⟨S_, .f32⟩
  | .hbm, ⟨19, _⟩ => ⟨S6x1408, .f32⟩
  | .hbm, ⟨20, _⟩ => ⟨S6x1408, .f32⟩
  | .hbm, ⟨21, _⟩ => ⟨S6x1408, .f32⟩
  | .hbm, ⟨22, _⟩ => ⟨S_, .f32⟩
  | .hbm, ⟨23, _⟩ => ⟨S6x1408, .f32⟩
  | .hbm, ⟨24, _⟩ => ⟨S6x1408, .f32⟩
  | .hbm, ⟨25, _⟩ => ⟨S_, .f32⟩
  | .hbm, ⟨26, _⟩ => ⟨S6x1408, .f32⟩
  | .hbm, ⟨27, _⟩ => ⟨S6x1408, .f32⟩
  | .hbm, ⟨28, _⟩ => ⟨S6x1408, .f32⟩
  | .hbm, ⟨29, _⟩ => ⟨S_, .f32⟩
  | .hbm, ⟨30, _⟩ => ⟨S6x1408, .f32⟩
  | .hbm, ⟨31, _⟩ => ⟨S6x1408, .f32⟩
  | .hbm, ⟨32, _⟩ => ⟨S6x1408, .f32⟩
  | .hbm, ⟨33, _⟩ => ⟨S_, .f32⟩
  | .hbm, ⟨34, _⟩ => ⟨S6x1408, .f32⟩
  | .hbm, ⟨35, _⟩ => ⟨S6x1408, .f32⟩
  | .hbm, ⟨36, _⟩ => ⟨S6x1408, .f32⟩
  | .hbm, ⟨37, _⟩ => ⟨S_, .f32⟩
  | .hbm, ⟨38, _⟩ => ⟨S6x1408, .f32⟩
  | .hbm, ⟨39, _⟩ => ⟨S6x1408, .f32⟩
  | _, _ => ⟨S6x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S577x2x1024 : Shape := ⟨3, ![577, 2, 1024]⟩
abbrev S577x2x128 : Shape := ⟨3, ![577, 2, 128]⟩

abbrev nBuf : Space → Nat
  | .hbm => 9
  | .vmem => 18
  | .smem => 0
  | _ => 0

abbrev bufTy : (tb : Table) → Fin (tcTables nBuf tb) → BufTy
  | .hbm, ⟨0, _⟩ => ⟨S577x2x1024, .f32⟩
  | .hbm, ⟨1, _⟩ => ⟨S577x2x1024, .f32⟩
  | .hbm, ⟨2, _⟩ => ⟨S577x2x1024, .f32⟩
  | .hbm, ⟨3, _⟩ => ⟨S577x2x1024, .f32⟩
  | .hbm, ⟨4, _⟩ => ⟨S577x2x1024, .f32⟩
  | .hbm, ⟨5, _⟩ => ⟨S577x2x1024, .f32⟩
  | .hbm, ⟨6, _⟩ => ⟨S577x2x1024, .f32⟩
  | .hbm, ⟨7, _⟩ => ⟨S577x2x1024, .f32⟩
  | .hbm, ⟨8, _⟩ => ⟨S577x2x1024, .f32⟩
  | .local _ .vmem, ⟨0, _⟩ => ⟨S577x2x128, .f32⟩
  | .local _ .vmem, ⟨1, _⟩ => ⟨S577x2x128, .f32⟩
  | .local _ .vmem, ⟨2, _⟩ => ⟨S577x2x128, .f32⟩
  | .local _ .vmem, ⟨3, _⟩ => ⟨S577x2x128, .f32⟩
  | .local _ .vmem, ⟨4, _⟩ => ⟨S577x2x128, .f32⟩
  | .local _ .vmem, ⟨5, _⟩ => ⟨S577x2x128, .f32⟩
  | .local _ .vmem, ⟨6, _⟩ => ⟨S577x2x128, .f32⟩
  | .local _ .vmem, ⟨7, _⟩ => ⟨S577x2x128, .f32⟩
  | .local _ .vmem, ⟨8, _⟩ => ⟨S577x2x128, .f32⟩
  | .local _ .vmem, ⟨9, _⟩ => ⟨S577x2x128, .f32⟩
  | .local _ .vmem, ⟨10, _⟩ => ⟨S577x2x128, .f32⟩
  | .local _ .vmem, ⟨11, _⟩ => ⟨S577x2x128, .f32⟩
  | .local _ .vmem, ⟨12, _⟩ => ⟨S577x2x128, .f32⟩
  | .local _ .vmem, ⟨13, _⟩ => ⟨S577x2x128, .f32⟩
  | .local _ .vmem, ⟨14, _⟩ => ⟨S577x2x128, .f32⟩
  | .local _ .vmem, ⟨15, _⟩ => ⟨S577x2x128, .f32⟩
  | .local _ .vmem, ⟨16, _⟩ => ⟨S577x2x128, .f32⟩
  | .local _ .vmem, ⟨17, _⟩ => ⟨S577x2x128, .f32⟩
  | _, _ => ⟨S577x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S577x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S577x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S577x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S577x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S577x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S577x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S577x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S577x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S577x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S577x2x1024 : Shape := ⟨3, ![577, 2, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S577x2x1024, .f32⟩
  | .hbm, ⟨1, _⟩ => ⟨S577x2x1024, .f32⟩
  | .hbm, ⟨2, _⟩ => ⟨S577x2x1024, .f32⟩
  | .hbm, ⟨3, _⟩ => ⟨S577x2x1024, .f32⟩
  | .hbm, ⟨4, _⟩ => ⟨S577x2x1024, .f32⟩
  | .hbm, ⟨5, _⟩ => ⟨S577x2x1024, .f32⟩
  | .hbm, ⟨6, _⟩ => ⟨S577x2x1024, .f32⟩
  | .hbm, ⟨7, _⟩ => ⟨S_, .f32⟩
  | .hbm, ⟨8, _⟩ => ⟨S577x2x1024, .f32⟩
  | .hbm, ⟨9, _⟩ => ⟨S577x2x1024, .f32⟩
  | .hbm, ⟨10, _⟩ => ⟨S_, .f32⟩
  | .hbm, ⟨11, _⟩ => ⟨S577x2x1024, .f32⟩
  | .hbm, ⟨12, _⟩ => ⟨S577x2x1024, .f32⟩
  | .hbm, ⟨13, _⟩ => ⟨S577x2x1024, .f32⟩
  | .hbm, ⟨14, _⟩ => ⟨S_, .f32⟩
  | .hbm, ⟨15, _⟩ => ⟨S577x2x1024, .f32⟩
  | .hbm, ⟨16, _⟩ => ⟨S577x2x1024, .f32⟩
  | .hbm, ⟨17, _⟩ => ⟨S577x2x1024, .f32⟩
  | .hbm, ⟨18, _⟩ => ⟨S_, .f32⟩
  | .hbm, ⟨19, _⟩ => ⟨S577x2x1024, .f32⟩
  | .hbm, ⟨20, _⟩ => ⟨S577x2x1024, .f32⟩
  | .hbm, ⟨21, _⟩ => ⟨S577x2x1024, .f32⟩
  | .hbm, ⟨22, _⟩ => ⟨S_, .f32⟩
  | .hbm, ⟨23, _⟩ => ⟨S577x2x1024, .f32⟩
  | .hbm, ⟨24, _⟩ => ⟨S577x2x1024, .f32⟩
  | .hbm, ⟨25, _⟩ => ⟨S_, .f32⟩
  | .hbm, ⟨26, _⟩ => ⟨S577x2x1024, .f32⟩
  | .hbm, ⟨27, _⟩ => ⟨S577x2x1024, .f32⟩
  | .hbm, ⟨28, _⟩ => ⟨S577x2x1024, .f32⟩
  | .hbm, ⟨29, _⟩ => ⟨S_, .f32⟩
  | .hbm, ⟨30, _⟩ => ⟨S577x2x1024, .f32⟩
  | .hbm, ⟨31, _⟩ => ⟨S577x2x1024, .f32⟩
  | .hbm, ⟨32, _⟩ => ⟨S577x2x1024, .f32⟩
  | .hbm, ⟨33, _⟩ => ⟨S_, .f32⟩
  | .hbm, ⟨34, _⟩ => ⟨S577x2x1024, .f32⟩
  | .hbm, ⟨35, _⟩ => ⟨S577x2x1024, .f32⟩
  | .hbm, ⟨36, _⟩ => ⟨S577x2x1024, .f32⟩
  | .hbm, ⟨37, _⟩ => ⟨S_, .f32⟩
  | .hbm, ⟨38, _⟩ => ⟨S577x2x1024, .f32⟩
  | .hbm, ⟨39, _⟩ => ⟨S577x2x1024, .f32⟩
  | _, _ => ⟨S577x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_22 : BitVec 32 := 0#32
  let v57 : BitVec 1 := Scalar.cmpi .ne v56 c0_i32_22
  v57

def k0_cond3 (i : grid0.Coords) : BitVec 1 :=
  let arg0 : BitVec 32 := BitVec.ofNat 32 (i 0).val
  let c0_i32 : BitVec 32 := 0#32
  let v52 : BitVec 1 := Scalar.cmpi .eq arg0 c0_i32
  let v58 : BitVec 32 := Scalar.extui v52
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32 : BitVec 32 := 0#32
  let v52 : BitVec 1 := Scalar.cmpi .eq arg0 c0_i32
  let true_24 : BitVec 1 := 1#1
  let v60 : BitVec 1 := Scalar.xori v52 true_24
  let v61 : BitVec 32 := Scalar.extui v60
  let c0_i32_25 : BitVec 32 := 0#32
  let v62 : BitVec 1 := Scalar.cmpi .ne v61 c0_i32_25
  v62

def k0_cond5 (i : grid0.Coords) : BitVec 1 :=
  let arg0 : BitVec 32 := BitVec.ofNat 32 (i 0).val
  let c0_i32 : BitVec 32 := 0#32
  let v52 : BitVec 1 := Scalar.cmpi .eq arg0 c0_i32
  let v63 : BitVec 32 := Scalar.extui v52
  let c0_i32_26 : BitVec 32 := 0#32
  let v64 : BitVec 1 := Scalar.cmpi .ne v63 c0_i32_26
  v64

def k0_cond6 (i : grid0.Coords) : BitVec 1 :=
  let arg0 : BitVec 32 := BitVec.ofNat 32 (i 0).val
  let c0_i32 : BitVec 32 := 0#32
  let v52 : BitVec 1 := Scalar.cmpi .eq arg0 c0_i32
  let true_27 : BitVec 1 := 1#1
  let v65 : BitVec 1 := Scalar.xori v52 true_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== AdamAda.lean ====
abbrev S8x1024 : Shape := ⟨2, ![8, 1024]⟩
abbrev S2x8x1536 : Shape := ⟨3, ![2, 8, 1536]⟩
abbrev S2x1024x1536 : Shape := ⟨3, ![2, 1024, 1536]⟩
abbrev S1024x8 : Shape := ⟨2, ![1024, 8]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S1024x8, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .hbm, ⟨9, _⟩ => ⟨S2x1024x1536, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S1x1024x768, .f32⟩
  | .local _ .vmem, ⟨9, _⟩ => ⟨S1x1024x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1024x768, .f32⟩
  | .local _ .vmem, ⟨13, _⟩ => ⟨S1x1024x768, .f32⟩
  | .local _ .vmem, ⟨14, _⟩ => ⟨S1x1024x768, .f32⟩
  | .local _ .vmem, ⟨15, _⟩ => ⟨S1x1024x768, .f32⟩
  | .local _ .vmem, ⟨16, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamAdaRefIdeal.lean ====
abbrev S8x1024 : Shape := ⟨2, ![8, 1024]⟩
abbrev S2x8x1536 : Shape := ⟨3, ![2, 8, 1536]⟩
abbrev S2x1024x1536 : Shape := ⟨3, ![2, 1024, 1536]⟩
abbrev S_ : Shape := ⟨0, ![]⟩
abbrev S8x2x1536 : Shape := ⟨3, ![8, 2, 1536]⟩
abbrev S2x1536x1024 : Shape := ⟨3, ![2, 1536, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x2x1536, .f32⟩
  | .hbm, ⟨15, _⟩ => ⟨S2x8x1536, .f32⟩
  | .hbm, ⟨16, _⟩ => ⟨S8x2x1536, .f32⟩
  | .hbm, ⟨17, _⟩ => ⟨S2x1536x1024, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S_, .f32⟩
  | .hbm, ⟨38, _⟩ => ⟨S2x1024x1536, .f32⟩
  | .hbm, ⟨39, _⟩ => ⟨S2x1024x1536, .f32⟩
  | .hbm, ⟨40, _⟩ => ⟨S2x1024x1536, .f32⟩
  | .hbm, ⟨41, _⟩ => ⟨S_, .f32⟩
  | .hbm, ⟨42, _⟩ => ⟨S2x1024x1536, .f32⟩
  | .hbm, ⟨43, _⟩ => ⟨S2x1024x1536, .f32⟩
  | .hbm, ⟨44, _⟩ => ⟨S2x1024x1536, .f32⟩
  | .hbm, ⟨45, _⟩ => ⟨S_, .f32⟩
  | .hbm, ⟨46, _⟩ => ⟨S2x1024x1536, .f32⟩
  | .hbm, ⟨47, _⟩ => ⟨S2x1024x1536, .f32⟩
  | .hbm, ⟨48, _⟩ => ⟨S2x1024x1536, .f32⟩
  | .hbm, ⟨49, _⟩ => ⟨S_, .f32⟩
  | .hbm, ⟨50, _⟩ => ⟨S2x1024x1536, .f32⟩
  | .hbm, ⟨51, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Proof.Block.lean ====
/- What one grid point of the attention gradient computes: the printed vector operations, in the printed order, over a
   key length that is a variable. The four key lengths of the kernel are instances of it. -/
module

public import Idealize.ShloMosaic.Lib.Pointwise
public import Idealize.ShloMosaic.Lib.MatmulPlain
public import Idealize.ShloMosaic.Lib.VecWindow

@[expose] public section

noncomputable section

namespace Cert.Fox

open Idealize.ShloMosaic

/-- The shape of a matrix. -/
abbrev mat (a b : ℕ) : Shape := ⟨2, ![a, b]⟩
/-- The shape of a list of numbers. -/
abbrev lin (a : ℕ) : Shape := ⟨1, ![a]⟩

/-- The dimension numbers of a product whose first operand is transposed. -/
def dotTN (n : ℕ) (h : DotDims.WF (mat 256 n) (mat 256 128) (mat n 128) [0] [0] [1] [1] [] []) :
    DotDims (mat 256 n) (mat 256 128) (mat n 128) where
  lhsContracting := [0]
  rhsContracting := [0]
  lhsNonContracting := [1]
  rhsNonContracting := [1]
  lhsBatch := []
  rhsBatch := []
  wf := h

/-- The facts about shapes that the operations at key length `n` ask for. -/
structure Sides (n : ℕ) : Prop where
  le : n ≤ 2048
  col : (mat 256 1).Broadcasts (mat 256 n)
  row : (mat 1 n).Broadcasts (mat 256 n)
  lane : (mat 256 1).Broadcasts (mat 256 128)
  io0 : (mat 256 n).Iotas .tc 32 [0]
  io1 : (mat 256 n).Iotas .tc 32 [1]
  iol : (mat 256 128).Iotas .tc 32 [1]
  redRow : (mat 256 n).Reduces [0] (lin n)
  redCol : (mat 256 n).Reduces [1] (lin 256)
  redLane : (mat 256 128).Reduces [1] (lin 256)
  cast1n : (mat 1 n).ShapeCasts (mat 1 n)
  castn1 : (lin n).ShapeCasts (mat 1 n)
  castc : (lin 256).ShapeCasts (mat 256 1)
  castcc : (mat 256 1).ShapeCasts (mat 256 1)
  casti : (mat 256 128).ShapeCasts (mat 256 128)
  castk : (mat n 128).ShapeCasts (mat n 128)
  slice : ∀ h, h < 4 → (mat 256 128).Slices ![0, h] (mat 256 1)
  tn : DotDims.WF (mat 256 n) (mat 256 128) (mat n 128) [0] [0] [1] [1] [] []

variable {F : FTy → Type} [FloatOps F]

/-- The blocks a grid point reads: queries, all keys and values, the columns and rows of cumulated gates, the rows'
    log-sum-exp, the forward's output and the incoming gradient. -/
structure Ins (F : FTy → Type) where
  q : FVec F (mat 256 256) .f32
  k : FVec F (mat 2048 256) .f32
  v : FVec F (mat 2048 256) .f32
  cc : FVec F (mat 256 128) .f32
  cr : FVec F (mat 8 2048) .f32
  lse : FVec F (mat 256 128) .f32
  o : FVec F (mat 256 256) .f32
  d : FVec F (mat 256 256) .f32

/-- What is carried from point to point: minus the column sums of the score gradients, and the sums for keys and values. -/
structure St (F : FTy → Type) where
  dck : FVec F (mat 8 2048) .f32
  dk : FVec F (mat 2048 256) .f32
  dv : FVec F (mat 2048 256) .f32

/-- The sums before the first point. -/
def St.zero : St F where
  dck := broadcast (mat 8 2048) (Scalar.ofBits .f32 0x00000000#32)
  dk := shapeCast (mat 2048 256) (broadcast (mat 2048 256) (Scalar.ofBits .f32 0x00000000#32)) (by decide)
  dv := shapeCast (mat 2048 256) (broadcast (mat 2048 256) (Scalar.ofBits .f32 0x00000000#32)) (by decide)

/-- The float zero in every place. -/
abbrev zeros (s : Shape) : FVec F s .f32 := broadcast s (Scalar.ofBits .f32 0x00000000#32)

/-- Columns `128 p …` of a block of queries. -/
abbrev qcols (x : FVec F (mat 256 256) .f32) (p : ℕ) (hp : p < 2) : FVec F (mat 256 128) .f32 :=
  View.ld (Val := Elt F) (e' := .f32) x (Rect.unit (s := mat 256 256) ![0, 128 * p] ![256, 128]
    (Fin.forall_fin_two.mpr ⟨by simp, by simp; omega⟩))

section head
variable {n : ℕ} (e : Sides n)

/-- Columns `128 p …` of the first `n` rows of an array of keys. -/
abbrev kcols (p : ℕ) (hp : p < 2) (x : FVec F (mat 2048 256) .f32) : FVec F (mat n 128) .f32 :=
  View.ld (Val := Elt F) (e' := .f32) x (Rect.unit (s := mat 2048 256) ![0, 128 * p] ![n, 128]
    (Fin.forall_fin_two.mpr ⟨by have := e.le; simpa, by simp; omega⟩))

/-- The first `n` entries of row `h`. -/
abbrev crow (x : FVec F (mat 8 2048) .f32) (h : ℕ) (hh : h < 4) : FVec F (mat 1 n) .f32 :=
  View.ld (Val := Elt F) (e' := .f32) x (Rect.unit (s := mat 8 2048) ![h, 0] ![1, n]
    (Fin.forall_fin_two.mpr ⟨by simp; omega, by have := e.le; simpa⟩))

variable (neg : F .f32) (i : BitVec 32) (X : Ins F) (p t : ℕ) (hp : p < 2) (ht : t < 2)

/-- The lanes of head `t` of a pair of heads. -/
def lanes : IVec (mat 256 128) 1 :=
  andi (cmpi .sge (iota .tc (mat 256 128) 32 [1] e.iol) (broadcast (mat 256 128) (BitVec.ofNat 32 (64 * t))))
    (cmpi .slt (iota .tc (mat 256 128) 32 [1] e.iol) (broadcast (mat 256 128) (BitVec.ofNat 32 (64 * t + 64))))

/-- The scaled queries of one head, the other head's lanes at zero. -/
def qm : FVec F (mat 256 128) .bf16 :=
  truncf .bf16 (select (lanes e t)
    (mulf (shapeCast (mat 256 128) (qcols X.q p hp) e.casti) (broadcast (mat 256 128) (Scalar.ofBits .f32 0x3E000000#32)))
    (zeros (mat 256 128))) (by decide)

/-- The incoming gradient of one head, the other head's lanes at zero. -/
def dom : FVec F (mat 256 128) .f32 := select (lanes e t) (qcols X.d p hp) (zeros (mat 256 128))

/-- Keys or values, in the format the products take. -/
def half (x : FVec F (mat n 128) .f32) : FVec F (mat n 128) .bf16 :=
  truncf .bf16 (shapeCast (mat n 128) x e.castk) (by decide)

/-- A block of columns, as it is loaded. -/
abbrev whole (x : FVec F (mat 256 128) .f32) : FVec F (mat 256 128) .f32 :=
  View.ld (Val := Elt F) (e' := .f32) x (Rect.unit (s := mat 256 128) ![0, 0] ![256, 128]
    (Fin.forall_fin_two.mpr ⟨by simp, by simp⟩))

/-- Column `h` of a block, along the keys. -/
def along (x : FVec F (mat 256 128) .f32) (h : ℕ) (hh : h < 4) : FVec F (mat 256 n) .f32 :=
  broadcastTo (mat 256 n) (extractStridedSlice (mat 256 1) ![0, h] (shapeCast (mat 256 128) (whole x) e.casti) (e.slice h hh)) e.col

/-- The scores, those of later keys replaced by `neg`. -/
def score : FVec F (mat 256 n) .f32 :=
  select
    (cmpi .sle (iota .tc (mat 256 n) 32 [1] e.io1)
      (addi (broadcast (mat 256 n) (Scalar.muli i 256#32)) (iota .tc (mat 256 n) 32 [0] e.io0)))
    (subf
      (addf (matmul (DotDims.transposedRhs 256 128 n) none (qm e X p t hp) (half e (kcols e p hp X.k)) (constant (mat 256 n) .f32 0x00000000#32))
        (along e X.cc (2 * p + t) (by omega)))
      (broadcastTo (mat 256 n) (shapeCast (mat 1 n) (crow e X.cr (2 * p + t) (by omega)) e.cast1n) e.row))
    (broadcast (mat 256 n) neg)

/-- The probabilities: the exponential of the masked scores less the row's log-sum-exp. -/
def prob : FVec F (mat 256 n) .f32 := exp (subf (score e neg i X p t hp ht) (along e X.lse (2 * p + t) (by omega)))

/-- The gradient of the scores. -/
def ds : FVec F (mat 256 n) .f32 :=
  mulf (prob e neg i X p t hp ht) (subf
    (matmul (DotDims.transposedRhs 256 128 n) none (truncf .bf16 (dom e X p t hp) (by decide)) (half e (kcols e p hp X.v))
      (constant (mat 256 n) .f32 0x00000000#32))
    (broadcastTo (mat 256 n)
      (shapeCast (mat 256 1)
        (multiReduction .add [1] (lin 256) (mulf (dom e X p t hp) (shapeCast (mat 256 128) (qcols X.o p hp) e.casti)) 0x00000000#32
          e.redLane (.inl rfl) rfl)
        e.castc) e.col))

/-- The gradient of the queries of one head put in its lanes of `prev`. -/
def dqHead (prev : FVec F (mat 256 128) .f32) : FVec F (mat 256 128) .f32 :=
  select (lanes e t)
    (mulf (matmul (DotDims.plain 256 n 128) none (truncf .bf16 (ds e neg i X p t hp ht) (by decide)) (half e (kcols e p hp X.k))
        (constant (mat 256 128) .f32 0x00000000#32))
      (broadcast (mat 256 128) (Scalar.ofBits .f32 0x3E000000#32)))
    prev

/-- One head's part of the gradient of the keys added to `prev`. -/
def dkHead (prev : FVec F (mat n 128) .f32) : FVec F (mat n 128) .f32 :=
  addf prev (matmul (dotTN n e.tn) none (truncf .bf16 (ds e neg i X p t hp ht) (by decide)) (qm e X p t hp)
    (constant (mat n 128) .f32 0x00000000#32))

/-- One head's part of the gradient of the values added to `prev`. -/
def dvHead (prev : FVec F (mat n 128) .f32) : FVec F (mat n 128) .f32 :=
  addf prev (matmul (dotTN n e.tn) none (truncf .bf16 (prob e neg i X p t hp ht) (by decide)) (truncf .bf16 (dom e X p t hp) (by decide))
    (constant (mat n 128) .f32 0x00000000#32))

/-- The row sums of the score gradients of one head put in the head's lane of `prev`. -/
def dcqHead (prev : FVec F (mat 256 128) .f32) : FVec F (mat 256 128) .f32 :=
  select (cmpi .eq (iota .tc (mat 256 128) 32 [1] e.iol) (broadcast (mat 256 128) (BitVec.ofNat 32 (2 * p + t))))
    (broadcastTo (mat 256 128)
      (shapeCast (mat 256 1)
        (shapeCast (mat 256 1) (multiReduction .add [1] (lin 256) (ds e neg i X p t hp ht) 0x00000000#32 e.redCol (.inl rfl) rfl) e.castc)
        e.castcc) e.lane)
    prev

/-- The column sums of the score gradients of one head taken from the head's row `row`. -/
def dckRow (row : FVec F (mat 1 n) .f32) : FVec F (mat 1 n) .f32 :=
  subf (shapeCast (mat 1 n) row e.cast1n)
    (shapeCast (mat 1 n) (multiReduction .add [0] (lin n) (ds e neg i X p t hp ht) 0x00000000#32 e.redRow (.inl rfl) rfl) e.castn1)

end head

section point
variable {n : ℕ} (e : Sides n) (neg : F .f32) (i : BitVec 32) (X : Ins F)

/-- The gradient of a pair of heads' queries. -/
def dqPair (p : ℕ) (hp : p < 2) : FVec F (mat 256 128) .bf16 :=
  truncf .bf16 (dqHead e neg i X p 1 hp one_lt_two (dqHead e neg i X p 0 hp two_pos (zeros _))) (by decide)

/-- The columns `x` of a pair of heads in a sum for the keys, with the point's part. -/
def dkPair (p : ℕ) (hp : p < 2) (x : FVec F (mat n 128) .f32) : FVec F (mat n 128) .f32 :=
  shapeCast (mat n 128)
    (addf x (dkHead e neg i X p 1 hp one_lt_two (dkHead e neg i X p 0 hp two_pos (zeros _)))) e.castk

/-- The columns `x` of a pair of heads in a sum for the values, with the point's part. -/
def dvPair (p : ℕ) (hp : p < 2) (x : FVec F (mat n 128) .f32) : FVec F (mat n 128) .f32 :=
  shapeCast (mat n 128)
    (addf x (dvHead e neg i X p 1 hp one_lt_two (dvHead e neg i X p 0 hp two_pos (zeros _)))) e.castk

/-- The gradient of the queries' block. -/
def dq : FVec F (mat 256 256) .bf16 :=
  VecWindow.put (VecWindow.put (broadcast (mat 256 256) (Scalar.ofBits .bf16 0x0000#16)) ![0, 0] ![256, 128] (dqPair e neg i X 0 two_pos))
    ![0, 128] ![256, 128] (dqPair e neg i X 1 one_lt_two)

/-- The row sums of the score gradients, a head in a lane. -/
def dcq : FVec F (mat 256 128) .f32 :=
  dcqHead e neg i X 1 1 one_lt_two one_lt_two (dcqHead e neg i X 1 0 one_lt_two two_pos
    (dcqHead e neg i X 0 1 two_pos one_lt_two (dcqHead e neg i X 0 0 two_pos two_pos (zeros _))))

/-- What is carried after the point. -/
def step (s : St F) : St F where
  dck := VecWindow.put (VecWindow.put (VecWindow.put (VecWindow.put s.dck
      ![0, 0] ![1, n] (dckRow e neg i X 0 0 two_pos two_pos (crow e s.dck 0 (by decide)))) ![1, 0] ![1, n] (dckRow e neg i X 0 1 two_pos one_lt_two (crow e s.dck 1 (by decide))))
      ![2, 0] ![1, n] (dckRow e neg i X 1 0 one_lt_two two_pos (crow e s.dck 2 (by decide)))) ![3, 0] ![1, n] (dckRow e neg i X 1 1 one_lt_two one_lt_two (crow e s.dck 3 (by decide)))
  dk := VecWindow.put (VecWindow.put s.dk ![0, 0] ![n, 128] (dkPair e neg i X 0 two_pos (kcols e 0 two_pos s.dk)))
    ![0, 128] ![n, 128] (dkPair e neg i X 1 one_lt_two (kcols e 1 one_lt_two s.dk))
  dv := VecWindow.put (VecWindow.put s.dv ![0, 0] ![n, 128] (dvPair e neg i X 0 two_pos (kcols e 0 two_pos s.dv)))
    ![0, 128] ![n, 128] (dvPair e neg i X 1 one_lt_two (kcols e 1 one_lt_two s.dv))

end point

end Cert.Fox
end
-- ==== Proof.Body.lean ====
/- The statement of one grid point of the attention gradient on whole buffers, and the key lengths' shape facts. -/
module

public import proofs.«01_k».proof.Proof.Gen.KernelIdeal.Frame
public import proofs.«01_k».proof.Proof.Block

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The shape facts hold at each of the kernel's key lengths. -/
theorem sides512 : Sides 512 := by constructor <;> decide
theorem sides1024 : Sides 1024 := by constructor <;> decide
theorem sides1536 : Sides 1536 := by constructor <;> decide
theorem sides2048 : Sides 2048 := by constructor <;> decide

/-- The buffers of a grid point. -/
structure Bufs where
  a1 : Memref sig .tc .vmem S256x256 .f32
  h1 : a1.IsWhole
  a2 : Memref sig .tc .vmem S2048x256 .f32
  h2 : a2.IsWhole
  a3 : Memref sig .tc .vmem S2048x256 .f32
  h3 : a3.IsWhole
  a4 : Memref sig .tc .vmem S256x128 .f32
  h4 : a4.IsWhole
  a5 : Memref sig .tc .vmem S8x2048 .f32
  h5 : a5.IsWhole
  a6 : Memref sig .tc .vmem S256x128 .f32
  h6 : a6.IsWhole
  a7 : Memref sig .tc .vmem S256x256 .f32
  h7 : a7.IsWhole
  a8 : Memref sig .tc .vmem S256x256 .f32
  h8 : a8.IsWhole
  a9 : Memref sig .tc .vmem S256x256 .bf16
  h9 : a9.IsWhole
  a10 : Memref sig .tc .vmem S2048x256 .bf16
  h10 : a10.IsWhole
  a11 : Memref sig .tc .vmem S2048x256 .bf16
  h11 : a11.IsWhole
  a12 : Memref sig .tc .vmem S256x128 .f32
  h12 : a12.IsWhole
  a13 : Memref sig .tc .vmem S8x2048 .f32
  h13 : a13.IsWhole
  a14 : Memref sig .tc .vmem S2048x256 .f32
  h14 : a14.IsWhole
  a15 : Memref sig .tc .vmem S2048x256 .f32
  h15 : a15.IsWhole

/-- The input buffers at their blocks. -/
def held (c : Dev nD) (B : Bufs) (X : Ins F) : sProp 𝕄 :=
  iprop(owns (c : Thread nD τ) B.a1 fullShare X.q ∗ owns (c : Thread nD τ) B.a2 fullShare X.k
    ∗ owns (c : Thread nD τ) B.a3 fullShare X.v ∗ owns (c : Thread nD τ) B.a4 fullShare X.cc
    ∗ owns (c : Thread nD τ) B.a5 fullShare X.cr ∗ owns (c : Thread nD τ) B.a6 fullShare X.lse
    ∗ owns (c : Thread nD τ) B.a7 fullShare X.o ∗ owns (c : Thread nD τ) B.a8 fullShare X.d)

/-- The carried buffers at their sums. -/
def kept (c : Dev nD) (B : Bufs) (s : St F) : sProp 𝕄 :=
  iprop(owns (c : Thread nD τ) B.a13 fullShare s.dck ∗ owns (c : Thread nD τ) B.a14 fullShare s.dk
    ∗ owns (c : Thread nD τ) B.a15 fullShare s.dv)

/-- The body at a point, on buffers. -/
abbrev body (i : grid0.Coords) (B : Bufs) :=
  cc0_fox (F := F) i B.a1 B.h1 B.a2 B.h2 B.a3 B.h3 B.a4 B.h4 B.a5 B.h5 B.a6 B.h6 B.a7 B.h7 B.a8 B.h8 B.a9 B.h9 B.a10 B.h10
    B.a11 B.h11 B.a12 B.h12 B.a13 B.h13 B.a14 B.h14 B.a15 B.h15

/-- The scores' replacement for later keys. -/
abbrev neg : F .f32 := Named.named κ "mask" 0xF149F2CA#32

/-- The number of a point, as the body reads it. -/
abbrev pt (i : grid0.Coords) : BitVec 32 := BitVec.ofNat 32 (i 0).val

/-- On its buffers the body computes the point's blocks and takes what is carried from `s` to `s'`; the two results that
    are written at the last point only go from `y` to `z`. -/
def Runs {n : ℕ} (e : Sides n) (c : Dev nD) (i : grid0.Coords) (B : Bufs) (X : Ins F) (s s' : St F)
    (yk yv zk zv : FVec F (mat 2048 256) .bf16) : Prop :=
  ∀ (E : Set ℕ) (K : PUnit → sProp 𝕄),
    iprop(held c B X ∗ (∃ d, owns (c : Thread nD τ) B.a9 fullShare d) ∗ owns (c : Thread nD τ) B.a10 fullShare yk
        ∗ owns (c : Thread nD τ) B.a11 fullShare yv ∗ (∃ d, owns (c : Thread nD τ) B.a12 fullShare d) ∗ kept c B s
        ∗ (iprop(held c B X ∗ owns (c : Thread nD τ) B.a9 fullShare (dq e neg (pt i) X)
            ∗ owns (c : Thread nD τ) B.a10 fullShare zk ∗ owns (c : Thread nD τ) B.a11 fullShare zv
            ∗ owns (c : Thread nD τ) B.a12 fullShare (dcq e neg (pt i) X) ∗ kept c B s') -∗ K ⟨⟩))
      ⊢ wp frame (wpE (defs₀ (F := F)) Variants.none c none) E (body i B) K

section stores
variable {Val : EltTy → Type} {sg : RefSig} {ka : Kind} {sp : Space} {S : Shape} {el : EltTy}

/-- A buffer read after two stores of one size over others. -/
theorem read_two (v : View sg ka sp S el) (f : v.ty.Contents Val) {o o' : Fin S.rank → ℕ} {z : Fin S.rank → ℕ}
    {L : List (View.Piece Val S el)} {x : S.Idx → Val el} (hx : v.read Val (v.writes Val f L) = x)
    (i : ∀ a, o a + z a ≤ S.size a) (i' : ∀ a, o' a + z a ≤ S.size a) {w w' : (Rect.unit o z i).shape.Idx → Val el}
    {u u' : (Rect.unit o' z i').shape.Idx → Val el} (h : w = w') (h' : u = u') :
    v.read Val (v.writes Val f (⟨Rect.unit o' z i', u⟩ :: ⟨Rect.unit o z i, w⟩ :: L))
      = VecWindow.put (VecWindow.put x o z w') o' z u' := by
  rw [View.read_writes_cons_put v f i' u _ rfl, View.read_writes_cons_put v f i w _ rfl, hx, h, h']

/-- A piece stored apart from what is loaded does not matter. -/
theorem readCov_skip [∀ e, Nonempty (Val e)] (v : View sg ka sp S el) {o o' z z' : Fin S.rank → ℕ}
    {L : List (View.Piece Val S el)} (i : ∀ a, o a + z a ≤ S.size a) (i' : ∀ a, o' a + z' a ≤ S.size a)
    {w : (Rect.unit o' z' i').shape.Idx → Val el} (a : Fin S.rank) (ha : o a + z a ≤ o' a ∨ o' a + z' a ≤ o a) :
    v.readCov (⟨Rect.unit o' z' i', w⟩ :: L) (Rect.unit o z i).toLoadRect = v.readCov L (Rect.unit o z i).toLoadRect := by
  show VecWindow.window (v.read Val (v.writes Val v.junk (⟨Rect.unit o' z' i', w⟩ :: L))) o z i
    = VecWindow.window (v.read Val (v.writes Val v.junk L)) o z i
  rw [View.read_writes_cons_put v _ i' w _ rfl, VecWindow.window_put_of_disjoint _ _ _ _ _ _ _ a ha]

/-- A load from a buffer stored whole. -/
theorem readCov_init [∀ e, Nonempty (Val e)] (v : View sg ka sp S el) {o o' z : Fin S.rank → ℕ}
    (i : ∀ a, o a + z a ≤ S.size a) (i' : ∀ a, o' a + S.size a ≤ S.size a) {w : (Rect.unit o' S.size i').shape.Idx → Val el} :
    v.readCov [⟨Rect.unit o' S.size i', w⟩] (Rect.unit o z i).toLoadRect = View.ld w (Rect.unit o z i) := by
  show VecWindow.window (v.read Val (v.writes Val v.junk [⟨Rect.unit o' S.size i', w⟩])) o z i = _
  rw [View.read_writes_full]; rfl

/-- The two halves of a block's columns cover it: what was there before does not matter. -/
theorem put_halves {α : Type} {r : ℕ} (x y : (mat r 256).Idx → α) (w u : (mat r 128).Idx → α) :
    VecWindow.put (VecWindow.put x ![0, 0] ![r, 128] w) ![0, 128] ![r, 128] u
      = VecWindow.put (VecWindow.put y ![0, 0] ![r, 128] w) ![0, 128] ![r, 128] u := by
  funext j
  unfold VecWindow.put
  have hj := (j 1).isLt
  have hj0 := (j 0).isLt
  split
  · rfl
  · split
    · rfl
    · rename_i h1 h2
      exfalso
      simp only [Fin.forall_fin_two] at h1 h2
      simp at h1 h2 hj hj0
      omega

/-- A buffer of two halves of columns loaded after both were stored. -/
theorem readCov_halves [∀ e, Nonempty (Val e)] (v : View sg ka sp (mat 2048 256) el)
    (i : ∀ a, (![0, 0] : Fin 2 → ℕ) a + (![2048, 128] : Fin 2 → ℕ) a ≤ (mat 2048 256).size a)
    (i' : ∀ a, (![0, 128] : Fin 2 → ℕ) a + (![2048, 128] : Fin 2 → ℕ) a ≤ (mat 2048 256).size a)
    (j : ∀ a, (![0, 0] : Fin 2 → ℕ) a + (mat 2048 256).size a ≤ (mat 2048 256).size a)
    {w w' u u' : (mat 2048 128).Idx → Val el} (x : (mat 2048 256).Idx → Val el) (h : w = w') (h' : u = u') :
    v.readCov [⟨Rect.unit (s := mat 2048 256) ![0, 128] ![2048, 128] i', u⟩, ⟨Rect.unit (s := mat 2048 256) ![0, 0] ![2048, 128] i, w⟩]
        (Rect.unit (s := mat 2048 256) ![0, 0] (mat 2048 256).size j).toLoadRect
      = VecWindow.put (VecWindow.put x ![0, 0] ![2048, 128] w') ![0, 128] ![2048, 128] u' :=
  (View.readAt_full v _ j).trans ((read_two v _ rfl i i' h h').trans (put_halves _ _ _ _))

end stores

end Cert.Fox
end
-- ==== Proof.RunA.lean ====
/- The first grid point: key length 512, and the sums begin at zero. -/
module

public import proofs.«01_k».proof.Proof.Body
public import proofs.«01_k».proof.Proof.Gen.KernelIdeal.Skeleton

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

set_option maxHeartbeats 8000000 in
theorem runFirst (c : Dev nD) (i : grid0.Coords) (B : Bufs) (X : Ins F) (s : St F) (yk yv : FVec F (mat 2048 256) .bf16)
    (hc0 : k0_cond1 i = 1#1) (hc1 : k0_cond2 i = 1#1) (hc2 : ¬ k0_cond3 i = 1#1) (hc3 : ¬ k0_cond4 i = 1#1)
    (hc4 : ¬ k0_cond5 i = 1#1) (hc5 : ¬ k0_cond6 i = 1#1) :
    Runs sides512 c i B X s (step sides512 neg (pt i) X St.zero) yk yv yk yv := by
  obtain ⟨a1, h1, a2, h2, a3, h3, a4, h4, a5, h5, a6, h6, a7, h7, a8, h8, a9, h9, a10, h10, a11, h11, a12, h12, a13, h13,
    a14, h14, a15, h15⟩ := B
  obtain ⟨xq, xk, xv, xcc, xcr, xl, xo, xd⟩ := X
  obtain ⟨s0, s1, s2⟩ := s
  intro E K
  unfold held kept body
  dsimp only
  simp only [cc0_fox_eq_skeleton]; unfold cc0_fox_skel
  simp only [k0_part29_eq_skeleton, k0_part30_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, ⟨%d12, %f12, -, H12⟩, ⟨⟨%f13, %hf13, H13⟩, ⟨%f14, %hf14, H14⟩, ⟨%f15, %hf15, H15⟩⟩, Hk⟩
  subst hf1 hf2 hf3 hf4 hf5 hf6 hf7 hf8 hf10 hf11 hf13 hf14 hf15
  sl_exec (disch := first | sl_exact hc0 | sl_exact hc1 | sl_exact hc2 | sl_exact hc3 | sl_exact hc4 | sl_exact hc5)
  sl_step
  iapply Hk
  isplitl [H1 H2 H3 H4 H5 H6 H7 H8]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr; rotate_left
    · iexact H9
    ipureintro
    exact (read_two a9.view f9 rfl _ _ rfl rfl).trans (put_halves _ _ _ _)
  isplitl [H10]
  · iexists _; isplitr; rotate_left
    · iexact H10
    ipureintro
    rfl
  isplitl [H11]
  · iexists _; isplitr; rotate_left
    · iexact H11
    ipureintro
    rfl
  isplitl [H12]
  · iexists _; isplitr; rotate_left
    · iexact H12
    ipureintro
    rw [View.read_writes_full]; rfl
  isplitl [H13]
  · iexists _; isplitr; rotate_left
    · iexact H13
    ipureintro
    let X : Ins F := ⟨View.read (Elt F) a1.view f1, View.read (Elt F) a2.view f2, View.read (Elt F) a3.view f3, View.read (Elt F) a4.view f4,
      View.read (Elt F) a5.view f5, View.read (Elt F) a6.view f6, View.read (Elt F) a7.view f7, View.read (Elt F) a8.view f8⟩
    refine read_two a13.view f13 (read_two a13.view f13 (x := (St.zero (F := F)).dck) (View.read_writes_full a13.view f13 _ _ _) _ _ ?_ ?_) _ _ ?_ ?_
    · refine Eq.trans (b := dckRow sides512 neg (pt i) X 0 0 two_pos two_pos
        (a13.view.readCov runFirst.sl.H13_1 (Rect.unit (s := mat 8 2048) ![0, 0] ![1, 512] inb_S8x2048_S1x512_0_0).toLoadRect)) ?A1 (congrArg _ ?B1)
      case A1 => exact rfl
      case B1 => exact readCov_init a13.view _ _
    · refine Eq.trans (b := dckRow sides512 neg (pt i) X 0 1 two_pos one_lt_two
        (a13.view.readCov (runFirst.sl.H13_2 c i a1 a2 a3 a4 a5 a6 a7 a8 a13 f1 f2 f3 f4 f5 f6 f7 f8) (Rect.unit (s := mat 8 2048) ![1, 0] ![1, 512] inb_S8x2048_S1x512_1_0).toLoadRect)) ?A2 (congrArg _ ?B2)
      case A2 => exact rfl
      case B2 => exact (readCov_skip a13.view _ _ 0 (.inr (by decide))).trans (readCov_init a13.view _ _)
    · refine Eq.trans (b := dckRow sides512 neg (pt i) X 1 0 one_lt_two two_pos
        (a13.view.readCov (runFirst.sl.H13_3 c i a1 a2 a3 a4 a5 a6 a7 a8 a13 f1 f2 f3 f4 f5 f6 f7 f8) (Rect.unit (s := mat 8 2048) ![2, 0] ![1, 512] inb_S8x2048_S1x512_2_0).toLoadRect)) ?A3 (congrArg _ ?B3)
      case A3 => exact rfl
      case B3 => exact (readCov_skip a13.view _ _ 0 (.inr (by decide))).trans ((readCov_skip a13.view _ _ 0 (.inr (by decide))).trans (readCov_init a13.view _ _))
    · refine Eq.trans (b := dckRow sides512 neg (pt i) X 1 1 one_lt_two one_lt_two
        (a13.view.readCov (runFirst.sl.H13_4 c i a1 a2 a3 a4 a5 a6 a7 a8 a13 f1 f2 f3 f4 f5 f6 f7 f8) (Rect.unit (s := mat 8 2048) ![3, 0] ![1, 512] inb_S8x2048_S1x512_3_0).toLoadRect)) ?A4 (congrArg _ ?B4)
      case A4 => exact rfl
      case B4 => exact (readCov_skip a13.view _ _ 0 (.inr (by decide))).trans ((readCov_skip a13.view _ _ 0 (.inr (by decide))).trans ((readCov_skip a13.view _ _ 0 (.inr (by decide))).trans (readCov_init a13.view _ _)))
  isplitl [H14]
  · iexists _; isplitr; rotate_left
    · iexact H14
    ipureintro
    let X : Ins F := ⟨View.read (Elt F) a1.view f1, View.read (Elt F) a2.view f2, View.read (Elt F) a3.view f3, View.read (Elt F) a4.view f4,
      View.read (Elt F) a5.view f5, View.read (Elt F) a6.view f6, View.read (Elt F) a7.view f7, View.read (Elt F) a8.view f8⟩
    refine read_two a14.view f14 (x := (St.zero (F := F)).dk) (View.read_writes_full a14.view f14 _ _ _) _ _ ?_ ?_
    · refine Eq.trans (b := dkPair sides512 neg (pt i) X 0 two_pos
        (a14.view.readCov runFirst.sl.H14_1 (Rect.unit (s := mat 2048 256) ![0, 0] ![512, 128] inb_S2048x256_S512x128_0_0).toLoadRect)) ?A5 (congrArg _ ?B5)
      case A5 => exact rfl
      case B5 => exact readCov_init a14.view _ _
    · refine Eq.trans (b := dkPair sides512 neg (pt i) X 1 one_lt_two
        (a14.view.readCov (runFirst.sl.H14_2 c i a1 a2 a3 a4 a5 a6 a7 a8 a14 f1 f2 f3 f4 f5 f6 f7 f8) (Rect.unit (s := mat 2048 256) ![0, 128] ![512, 128] inb_S2048x256_S512x128_0_128).toLoadRect)) ?A6 (congrArg _ ?B6)
      case A6 => exact rfl
      case B6 => exact (readCov_skip a14.view _ _ 1 (.inr (by decide))).trans (readCov_init a14.view _ _)
  iexists _; isplitr; rotate_left
  · iexact H15
  ipureintro
  let X : Ins F := ⟨View.read (Elt F) a1.view f1, View.read (Elt F) a2.view f2, View.read (Elt F) a3.view f3, View.read (Elt F) a4.view f4,
    View.read (Elt F) a5.view f5, View.read (Elt F) a6.view f6, View.read (Elt F) a7.view f7, View.read (Elt F) a8.view f8⟩
  refine read_two a15.view f15 (x := (St.zero (F := F)).dv) (View.read_writes_full a15.view f15 _ _ _) _ _ ?_ ?_
  · refine Eq.trans (b := dvPair sides512 neg (pt i) X 0 two_pos
      (a15.view.readCov runFirst.sl.H15_1 (Rect.unit (s := mat 2048 256) ![0, 0] ![512, 128] inb_S2048x256_S512x128_0_0).toLoadRect)) ?A7 (congrArg _ ?B7)
    case A7 => exact rfl
    case B7 => exact readCov_init a15.view _ _
  · refine Eq.trans (b := dvPair sides512 neg (pt i) X 1 one_lt_two
      (a15.view.readCov (runFirst.sl.H15_2 c i a1 a2 a4 a5 a6 a8 a15 f1 f2 f4 f5 f6 f8) (Rect.unit (s := mat 2048 256) ![0, 128] ![512, 128] inb_S2048x256_S512x128_0_128).toLoadRect)) ?A8 (congrArg _ ?B8)
    case A8 => exact rfl
    case B8 => exact (readCov_skip a15.view _ _ 1 (.inr (by decide))).trans (readCov_init a15.view _ _)

end Cert.Fox
end
-- ==== Proof.RunB.lean ====
/- The second grid point: key length 512. -/
module

public import proofs.«01_k».proof.Proof.Body
public import proofs.«01_k».proof.Proof.Gen.KernelIdeal.Skeleton

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

set_option maxHeartbeats 8000000 in
theorem run512 (c : Dev nD) (i : grid0.Coords) (B : Bufs) (X : Ins F) (s : St F) (yk yv : FVec F (mat 2048 256) .bf16)
    (hc0 : ¬ k0_cond1 i = 1#1) (hc1 : k0_cond2 i = 1#1) (hc2 : ¬ k0_cond3 i = 1#1) (hc3 : ¬ k0_cond4 i = 1#1)
    (hc4 : ¬ k0_cond5 i = 1#1) (hc5 : ¬ k0_cond6 i = 1#1) :
    Runs sides512 c i B X s (step sides512 neg (pt i) X s) yk yv yk yv := by
  obtain ⟨a1, h1, a2, h2, a3, h3, a4, h4, a5, h5, a6, h6, a7, h7, a8, h8, a9, h9, a10, h10, a11, h11, a12, h12, a13, h13,
    a14, h14, a15, h15⟩ := B
  obtain ⟨xq, xk, xv, xcc, xcr, xl, xo, xd⟩ := X
  obtain ⟨s0, s1, s2⟩ := s
  intro E K
  unfold held kept body
  dsimp only
  simp only [cc0_fox_eq_skeleton]; unfold cc0_fox_skel
  simp only [k0_part29_eq_skeleton, k0_part30_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, ⟨%d12, %f12, -, H12⟩, ⟨⟨%f13, %hf13, H13⟩, ⟨%f14, %hf14, H14⟩, ⟨%f15, %hf15, H15⟩⟩, Hk⟩
  subst hf1 hf2 hf3 hf4 hf5 hf6 hf7 hf8 hf10 hf11 hf13 hf14 hf15
  sl_exec (disch := first | sl_exact hc0 | sl_exact hc1 | sl_exact hc2 | sl_exact hc3 | sl_exact hc4 | sl_exact hc5)
  sl_step
  iapply Hk
  isplitl [H1 H2 H3 H4 H5 H6 H7 H8]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr; rotate_left
    · iexact H9
    ipureintro
    exact (read_two a9.view f9 rfl _ _ rfl rfl).trans (put_halves _ _ _ _)
  isplitl [H10]
  · iexists _; isplitr; rotate_left
    · iexact H10
    ipureintro
    rfl
  isplitl [H11]
  · iexists _; isplitr; rotate_left
    · iexact H11
    ipureintro
    rfl
  isplitl [H12]
  · iexists _; isplitr; rotate_left
    · iexact H12
    ipureintro
    rw [View.read_writes_full]; rfl
  isplitl [H13]
  · iexists _; isplitr; rotate_left
    · iexact H13
    ipureintro
    exact read_two a13.view f13 (read_two a13.view f13 rfl _ _ rfl rfl) _ _ rfl rfl
  isplitl [H14]
  · iexists _; isplitr; rotate_left
    · iexact H14
    ipureintro
    exact read_two a14.view f14 rfl _ _ rfl rfl
  iexists _; isplitr; rotate_left
  · iexact H15
  ipureintro
  exact read_two a15.view f15 rfl _ _ rfl rfl

end Cert.Fox
end
-- ==== Proof.RunC.lean ====
/- The grid points with key length 1024. -/
module

public import proofs.«01_k».proof.Proof.Body
public import proofs.«01_k».proof.Proof.Gen.KernelIdeal.Skeleton

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

set_option maxHeartbeats 8000000 in
theorem run1024 (c : Dev nD) (i : grid0.Coords) (B : Bufs) (X : Ins F) (s : St F) (yk yv : FVec F (mat 2048 256) .bf16)
    (hc0 : ¬ k0_cond1 i = 1#1) (hc1 : ¬ k0_cond2 i = 1#1) (hc2 : k0_cond3 i = 1#1) (hc3 : ¬ k0_cond4 i = 1#1)
    (hc4 : ¬ k0_cond5 i = 1#1) (hc5 : ¬ k0_cond6 i = 1#1) :
    Runs sides1024 c i B X s (step sides1024 neg (pt i) X s) yk yv yk yv := by
  obtain ⟨a1, h1, a2, h2, a3, h3, a4, h4, a5, h5, a6, h6, a7, h7, a8, h8, a9, h9, a10, h10, a11, h11, a12, h12, a13, h13,
    a14, h14, a15, h15⟩ := B
  obtain ⟨xq, xk, xv, xcc, xcr, xl, xo, xd⟩ := X
  obtain ⟨s0, s1, s2⟩ := s
  intro E K
  unfold held kept body
  dsimp only
  simp only [cc0_fox_eq_skeleton]; unfold cc0_fox_skel
  simp only [k0_part29_eq_skeleton, k0_part30_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, ⟨%d12, %f12, -, H12⟩, ⟨⟨%f13, %hf13, H13⟩, ⟨%f14, %hf14, H14⟩, ⟨%f15, %hf15, H15⟩⟩, Hk⟩
  subst hf1 hf2 hf3 hf4 hf5 hf6 hf7 hf8 hf10 hf11 hf13 hf14 hf15
  sl_exec (disch := first | sl_exact hc0 | sl_exact hc1 | sl_exact hc2 | sl_exact hc3 | sl_exact hc4 | sl_exact hc5)
  sl_step
  iapply Hk
  isplitl [H1 H2 H3 H4 H5 H6 H7 H8]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr; rotate_left
    · iexact H9
    ipureintro
    exact (read_two a9.view f9 rfl _ _ rfl rfl).trans (put_halves _ _ _ _)
  isplitl [H10]
  · iexists _; isplitr; rotate_left
    · iexact H10
    ipureintro
    rfl
  isplitl [H11]
  · iexists _; isplitr; rotate_left
    · iexact H11
    ipureintro
    rfl
  isplitl [H12]
  · iexists _; isplitr; rotate_left
    · iexact H12
    ipureintro
    rw [View.read_writes_full]; rfl
  isplitl [H13]
  · iexists _; isplitr; rotate_left
    · iexact H13
    ipureintro
    exact read_two a13.view f13 (read_two a13.view f13 rfl _ _ rfl rfl) _ _ rfl rfl
  isplitl [H14]
  · iexists _; isplitr; rotate_left
    · iexact H14
    ipureintro
    exact read_two a14.view f14 rfl _ _ rfl rfl
  iexists _; isplitr; rotate_left
  · iexact H15
  ipureintro
  exact read_two a15.view f15 rfl _ _ rfl rfl

end Cert.Fox
end
-- ==== Proof.RunD.lean ====
/- The grid points with key length 1536. -/
module

public import proofs.«01_k».proof.Proof.Body
public import proofs.«01_k».proof.Proof.Gen.KernelIdeal.Skeleton

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

set_option maxHeartbeats 8000000 in
theorem run1536 (c : Dev nD) (i : grid0.Coords) (B : Bufs) (X : Ins F) (s : St F) (yk yv : FVec F (mat 2048 256) .bf16)
    (hc0 : ¬ k0_cond1 i = 1#1) (hc1 : ¬ k0_cond2 i = 1#1) (hc2 : ¬ k0_cond3 i = 1#1) (hc3 : k0_cond4 i = 1#1)
    (hc4 : ¬ k0_cond5 i = 1#1) (hc5 : ¬ k0_cond6 i = 1#1) :
    Runs sides1536 c i B X s (step sides1536 neg (pt i) X s) yk yv yk yv := by
  obtain ⟨a1, h1, a2, h2, a3, h3, a4, h4, a5, h5, a6, h6, a7, h7, a8, h8, a9, h9, a10, h10, a11, h11, a12, h12, a13, h13,
    a14, h14, a15, h15⟩ := B
  obtain ⟨xq, xk, xv, xcc, xcr, xl, xo, xd⟩ := X
  obtain ⟨s0, s1, s2⟩ := s
  intro E K
  unfold held kept body
  dsimp only
  simp only [cc0_fox_eq_skeleton]; unfold cc0_fox_skel
  simp only [k0_part29_eq_skeleton, k0_part30_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, ⟨%d12, %f12, -, H12⟩, ⟨⟨%f13, %hf13, H13⟩, ⟨%f14, %hf14, H14⟩, ⟨%f15, %hf15, H15⟩⟩, Hk⟩
  subst hf1 hf2 hf3 hf4 hf5 hf6 hf7 hf8 hf10 hf11 hf13 hf14 hf15
  sl_exec (disch := first | sl_exact hc0 | sl_exact hc1 | sl_exact hc2 | sl_exact hc3 | sl_exact hc4 | sl_exact hc5)
  sl_step
  iapply Hk
  isplitl [H1 H2 H3 H4 H5 H6 H7 H8]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr; rotate_left
    · iexact H9
    ipureintro
    exact (read_two a9.view f9 rfl _ _ rfl rfl).trans (put_halves _ _ _ _)
  isplitl [H10]
  · iexists _; isplitr; rotate_left
    · iexact H10
    ipureintro
    rfl
  isplitl [H11]
  · iexists _; isplitr; rotate_left
    · iexact H11
    ipureintro
    rfl
  isplitl [H12]
  · iexists _; isplitr; rotate_left
    · iexact H12
    ipureintro
    rw [View.read_writes_full]; rfl
  isplitl [H13]
  · iexists _; isplitr; rotate_left
    · iexact H13
    ipureintro
    exact read_two a13.view f13 (read_two a13.view f13 rfl _ _ rfl rfl) _ _ rfl rfl
  isplitl [H14]
  · iexists _; isplitr; rotate_left
    · iexact H14
    ipureintro
    exact read_two a14.view f14 rfl _ _ rfl rfl
  iexists _; isplitr; rotate_left
  · iexact H15
  ipureintro
  exact read_two a15.view f15 rfl _ _ rfl rfl

end Cert.Fox
end
-- ==== Proof.RunE.lean ====
/- The last but one grid point: key length 2048. -/
module

public import proofs.«01_k».proof.Proof.Body
public import proofs.«01_k».proof.Proof.Gen.KernelIdeal.Skeleton

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

set_option maxHeartbeats 8000000 in
theorem run2048 (c : Dev nD) (i : grid0.Coords) (B : Bufs) (X : Ins F) (s : St F) (yk yv : FVec F (mat 2048 256) .bf16)
    (hc0 : ¬ k0_cond1 i = 1#1) (hc1 : ¬ k0_cond2 i = 1#1) (hc2 : ¬ k0_cond3 i = 1#1) (hc3 : ¬ k0_cond4 i = 1#1)
    (hc4 : k0_cond5 i = 1#1) (hc5 : ¬ k0_cond6 i = 1#1) :
    Runs sides2048 c i B X s (step sides2048 neg (pt i) X s) yk yv yk yv := by
  obtain ⟨a1, h1, a2, h2, a3, h3, a4, h4, a5, h5, a6, h6, a7, h7, a8, h8, a9, h9, a10, h10, a11, h11, a12, h12, a13, h13,
    a14, h14, a15, h15⟩ := B
  obtain ⟨xq, xk, xv, xcc, xcr, xl, xo, xd⟩ := X
  obtain ⟨s0, s1, s2⟩ := s
  intro E K
  unfold held kept body
  dsimp only
  simp only [cc0_fox_eq_skeleton]; unfold cc0_fox_skel
  simp only [k0_part29_eq_skeleton, k0_part30_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, ⟨%d12, %f12, -, H12⟩, ⟨⟨%f13, %hf13, H13⟩, ⟨%f14, %hf14, H14⟩, ⟨%f15, %hf15, H15⟩⟩, Hk⟩
  subst hf1 hf2 hf3 hf4 hf5 hf6 hf7 hf8 hf10 hf11 hf13 hf14 hf15
  sl_exec (disch := first | sl_exact hc0 | sl_exact hc1 | sl_exact hc2 | sl_exact hc3 | sl_exact hc4 | sl_exact hc5)
  sl_step
  iapply Hk
  isplitl [H1 H2 H3 H4 H5 H6 H7 H8]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr; rotate_left
    · iexact H9
    ipureintro
    exact (read_two a9.view f9 rfl _ _ rfl rfl).trans (put_halves _ _ _ _)
  isplitl [H10]
  · iexists _; isplitr; rotate_left
    · iexact H10
    ipureintro
    rfl
  isplitl [H11]
  · iexists _; isplitr; rotate_left
    · iexact H11
    ipureintro
    rfl
  isplitl [H12]
  · iexists _; isplitr; rotate_left
    · iexact H12
    ipureintro
    rw [View.read_writes_full]; rfl
  isplitl [H13]
  · iexists _; isplitr; rotate_left
    · iexact H13
    ipureintro
    exact read_two a13.view f13 (read_two a13.view f13 rfl _ _ rfl rfl) _ _ rfl rfl
  isplitl [H14]
  · iexists _; isplitr; rotate_left
    · iexact H14
    ipureintro
    exact read_two a14.view f14 rfl _ _ rfl rfl
  iexists _; isplitr; rotate_left
  · iexact H15
  ipureintro
  exact read_two a15.view f15 rfl _ _ rfl rfl

end Cert.Fox
end
-- ==== Proof.RunF.lean ====
/- The last grid point: key length 2048, and the sums for keys and values are written out. -/
module

public import proofs.«01_k».proof.Proof.Body
public import proofs.«01_k».proof.Proof.Gen.KernelIdeal.Skeleton

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

set_option maxHeartbeats 8000000 in
theorem runLast (c : Dev nD) (i : grid0.Coords) (B : Bufs) (X : Ins F) (s : St F) (yk yv : FVec F (mat 2048 256) .bf16)
    (hc0 : ¬ k0_cond1 i = 1#1) (hc1 : ¬ k0_cond2 i = 1#1) (hc2 : ¬ k0_cond3 i = 1#1) (hc3 : ¬ k0_cond4 i = 1#1)
    (hc4 : k0_cond5 i = 1#1) (hc5 : k0_cond6 i = 1#1) :
    Runs sides2048 c i B X s (step sides2048 neg (pt i) X s) yk yv
      (truncf .bf16 (step sides2048 neg (pt i) X s).dk (by decide)) (truncf .bf16 (step sides2048 neg (pt i) X s).dv (by decide)) := by
  obtain ⟨a1, h1, a2, h2, a3, h3, a4, h4, a5, h5, a6, h6, a7, h7, a8, h8, a9, h9, a10, h10, a11, h11, a12, h12, a13, h13,
    a14, h14, a15, h15⟩ := B
  obtain ⟨xq, xk, xv, xcc, xcr, xl, xo, xd⟩ := X
  obtain ⟨s0, s1, s2⟩ := s
  intro E K
  unfold held kept body
  dsimp only
  simp only [cc0_fox_eq_skeleton]; unfold cc0_fox_skel
  simp only [k0_part29_eq_skeleton, k0_part30_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%f10, %hf10, H10⟩, ⟨%f11, %hf11, H11⟩, ⟨%d12, %f12, -, H12⟩, ⟨⟨%f13, %hf13, H13⟩, ⟨%f14, %hf14, H14⟩, ⟨%f15, %hf15, H15⟩⟩, Hk⟩
  subst hf1 hf2 hf3 hf4 hf5 hf6 hf7 hf8 hf10 hf11 hf13 hf14 hf15
  sl_exec (disch := first | sl_exact hc0 | sl_exact hc1 | sl_exact hc2 | sl_exact hc3 | sl_exact hc4 | sl_exact hc5)
  sl_step
  iapply Hk
  isplitl [H1 H2 H3 H4 H5 H6 H7 H8]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr; rotate_left
    · iexact H9
    ipureintro
    exact (read_two a9.view f9 rfl _ _ rfl rfl).trans (put_halves _ _ _ _)
  isplitl [H10]
  · iexists _; isplitr; rotate_left
    · iexact H10
    ipureintro
    rw [View.read_writes_full]
    exact congrArg (fun x => truncf .bf16 x (by decide)) (readCov_halves a14.view _ _ _ (View.read (Elt F) a14.view f14) rfl rfl)
  isplitl [H11]
  · iexists _; isplitr; rotate_left
    · iexact H11
    ipureintro
    rw [View.read_writes_full]
    exact congrArg (fun x => truncf .bf16 x (by decide)) (readCov_halves a15.view _ _ _ (View.read (Elt F) a15.view f15) rfl rfl)
  isplitl [H12]
  · iexists _; isplitr; rotate_left
    · iexact H12
    ipureintro
    rw [View.read_writes_full]; rfl
  isplitl [H13]
  · iexists _; isplitr; rotate_left
    · iexact H13
    ipureintro
    exact read_two a13.view f13 (read_two a13.view f13 rfl _ _ rfl rfl) _ _ rfl rfl
  isplitl [H14]
  · iexists _; isplitr; rotate_left
    · iexact H14
    ipureintro
    exact read_two a14.view f14 (x := View.read (Elt F) a14.view f14) rfl _ _ rfl rfl
  iexists _; isplitr; rotate_left
  · iexact H15
  ipureintro
  exact read_two a15.view f15 (x := View.read (Elt F) a15.view f15) rfl _ _ rfl rfl

end Cert.Fox
end
-- ==== Proof.Point.lean ====
/- The grid's points: each window's block, what is carried, and the body's effect at every point. -/
module

public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The keys a point looks at: a multiple of 512 that reaches the point's last row. -/
def len (t : ℕ) : ℕ := 512 * (t / 2 + 1)

theorem sides (t : ℕ) (h : t < 8) : Sides (len t) := by
  obtain h | h | h | h : t / 2 = 0 ∨ t / 2 = 1 ∨ t / 2 = 2 ∨ t / 2 = 3 := by omega
  all_goals (unfold len; rw [h])
  exacts [sides512, sides1024, sides1536, sides2048]

theorem lt8 (t : Fin cfg0.N) : t.val < 8 := lt_of_lt_of_eq t.isLt (show cfg0.N = 8 from N_0)

/-- The buffers of point `t`: the windows' current staging buffers and the two sums' own. -/
abbrev bufs (t : Fin cfg0.N) : Bufs :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    win0_10.stage (cfg0.slots t 10), hstage0_10 ((cfg0.slots t 10).cast nbuf0_10),
    win0_11.stage (cfg0.slots t 11), hstage0_11 ((cfg0.slots t 11).cast nbuf0_11),
    win0_12.stage (cfg0.slots t 12), hstage0_12 ((cfg0.slots t 12).cast nbuf0_12),
    Memref.whole cc0_scratch0, Memref.isWhole_whole _, Memref.whole cc0_scratch1, Memref.isWhole_whole _⟩

variable (m : (ℓ : Loc nD τ sig) → Buf (Elt F) ℓ)

/-- The operands' blocks at point `t`. -/
abbrev ins (c : Dev nD) (t : Fin cfg0.N) : Ins F :=
  ⟨X0_0 m c t, X0_1 m c t, X0_2 m c t, iblk m c 3 t, iblk m c 4 t, iblk m c 5 t, iblk m c 6 t, iblk m c 7 t⟩

/-- What is carried after point `n`: its step on what the points before left, the first point's on zeros. -/
def stateAt (c : Dev nD) : (n : ℕ) → n < cfg0.N → St F
  | 0, h => step (sides 0 (by decide)) neg (pt (grid0.coords ⟨0, h⟩)) (ins m c ⟨0, h⟩) St.zero
  | n + 1, h => step (sides (n + 1) (lt8 ⟨n + 1, h⟩)) neg (pt (grid0.coords ⟨n + 1, h⟩)) (ins m c ⟨n + 1, h⟩) (stateAt c n (Nat.lt_of_succ_lt h))

theorem first_iff : ∀ t : Fin cfg0.N, k0_cond1 (grid0.coords t) = 1#1 ↔ t.val = 0 := by decide +kernel
theorem second_iff : ∀ t : Fin cfg0.N, k0_cond2 (grid0.coords t) = 1#1 ↔ t.val < 2 := by decide +kernel
theorem third_iff : ∀ t : Fin cfg0.N, k0_cond3 (grid0.coords t) = 1#1 ↔ (2 ≤ t.val ∧ t.val < 4) := by decide +kernel
theorem fourth_iff : ∀ t : Fin cfg0.N, k0_cond4 (grid0.coords t) = 1#1 ↔ (4 ≤ t.val ∧ t.val < 6) := by decide +kernel
theorem fifth_iff : ∀ t : Fin cfg0.N, k0_cond5 (grid0.coords t) = 1#1 ↔ 6 ≤ t.val := by decide +kernel
theorem last_iff : ∀ t : Fin cfg0.N, k0_cond6 (grid0.coords t) = 1#1 ↔ t.val = 7 := by decide +kernel

/-- The rounded gradient of the keys or values, once all points have added to it. -/
abbrev rounded (x : FVec F (mat 2048 256) .f32) : FVec F (mat 2048 256) .bf16 := truncf .bf16 x (by decide)

/-- A step depends on the key length alone, not on how it is spelt. -/
theorem step_len {n n' : ℕ} (e : Sides n) (e' : Sides n') (h : n = n') (i : BitVec 32) (X : Ins F) (s : St F) :
    step e neg i X s = step e' neg i X s := by subst h; rfl

theorem runs_len {n n' : ℕ} {e : Sides n} (e' : Sides n') (hn : n = n') {c : Dev nD} {i : grid0.Coords} {B : Bufs} {X : Ins F}
    {s s1 s2 : St F} {yk yv zk zv wk wv : FVec F (mat 2048 256) .bf16} (h : Runs e c i B X s (step e neg (pt i) X s1) yk yv zk zv)
    (h2 : s2 = step e' neg (pt i) X s1) (hk : wk = zk) (hv : wv = zv) : Runs e' c i B X s s2 yk yv wk wv := by
  subst hn; subst h2 hk hv; exact h

/-- The body's effect at every point. -/
theorem run_at (c : Dev nD) (t : Fin cfg0.N) (s : St F) (hs : ∀ k h, t.val = k + 1 → s = stateAt m c k h) (yk yv : FVec F (mat 2048 256) .bf16) :
    Runs (sides t.val (lt8 t)) c (grid0.coords t) (bufs t) (ins m c t) s (stateAt m c t.val t.isLt) yk yv
      (if t.val = 7 then rounded (stateAt m c t.val t.isLt).dk else yk) (if t.val = 7 then rounded (stateAt m c t.val t.isLt).dv else yv) := by
  have c1 := first_iff t; have c2 := second_iff t; have c3 := third_iff t
  have c4 := fourth_iff t; have c5 := fifth_iff t; have c6 := last_iff t
  have h8 := lt8 t
  obtain ⟨n, hn⟩ := t
  match n, hn, hs with
  | 0, hn, hs =>
    exact runs_len (sides 0 h8) rfl (runFirst c _ (bufs ⟨0, hn⟩) (ins m c ⟨0, hn⟩) s yk yv (c1.2 rfl) (c2.2 (by simp)) (mt c3.1 (by simp)) (mt c4.1 (by simp))
      (mt c5.1 (by simp)) (mt c6.1 (by simp))) rfl (if_neg (by simp)) (if_neg (by simp))
  | 1, hn, hs =>
    rw [hs 0 (Nat.lt_of_succ_lt hn) rfl]
    exact runs_len (sides 1 h8) rfl (run512 c _ (bufs ⟨1, hn⟩) (ins m c ⟨1, hn⟩) _ yk yv (mt c1.1 (by simp)) (c2.2 (by simp)) (mt c3.1 (by simp)) (mt c4.1 (by simp))
      (mt c5.1 (by simp)) (mt c6.1 (by simp))) rfl (if_neg (by simp)) (if_neg (by simp))
  | 2, hn, hs =>
    rw [hs 1 (Nat.lt_of_succ_lt hn) rfl]
    exact runs_len (sides 2 h8) rfl (run1024 c _ (bufs ⟨2, hn⟩) (ins m c ⟨2, hn⟩) _ yk yv (mt c1.1 (by simp)) (mt c2.1 (by simp)) (c3.2 (by simp)) (mt c4.1 (by simp))
      (mt c5.1 (by simp)) (mt c6.1 (by simp))) rfl (if_neg (by simp)) (if_neg (by simp))
  | 3, hn, hs =>
    rw [hs 2 (Nat.lt_of_succ_lt hn) rfl]
    exact runs_len (sides 3 h8) rfl (run1024 c _ (bufs ⟨3, hn⟩) (ins m c ⟨3, hn⟩) _ yk yv (mt c1.1 (by simp)) (mt c2.1 (by simp)) (c3.2 (by simp)) (mt c4.1 (by simp))
      (mt c5.1 (by simp)) (mt c6.1 (by simp))) rfl (if_neg (by simp)) (if_neg (by simp))
  | 4, hn, hs =>
    rw [hs 3 (Nat.lt_of_succ_lt hn) rfl]
    exact runs_len (sides 4 h8) rfl (run1536 c _ (bufs ⟨4, hn⟩) (ins m c ⟨4, hn⟩) _ yk yv (mt c1.1 (by simp)) (mt c2.1 (by simp)) (mt c3.1 (by simp)) (c4.2 (by simp))
      (mt c5.1 (by simp)) (mt c6.1 (by simp))) rfl (if_neg (by simp)) (if_neg (by simp))
  | 5, hn, hs =>
    rw [hs 4 (Nat.lt_of_succ_lt hn) rfl]
    exact runs_len (sides 5 h8) rfl (run1536 c _ (bufs ⟨5, hn⟩) (ins m c ⟨5, hn⟩) _ yk yv (mt c1.1 (by simp)) (mt c2.1 (by simp)) (mt c3.1 (by simp)) (c4.2 (by simp))
      (mt c5.1 (by simp)) (mt c6.1 (by simp))) rfl (if_neg (by simp)) (if_neg (by simp))
  | 6, hn, hs =>
    rw [hs 5 (Nat.lt_of_succ_lt hn) rfl]
    exact runs_len (sides 6 h8) rfl (run2048 c _ (bufs ⟨6, hn⟩) (ins m c ⟨6, hn⟩) _ yk yv (mt c1.1 (by simp)) (mt c2.1 (by simp)) (mt c3.1 (by simp)) (mt c4.1 (by simp))
      (c5.2 (by simp)) (mt c6.1 (by simp))) rfl (if_neg (by simp)) (if_neg (by simp))
  | 7, hn, hs =>
    rw [hs 6 (Nat.lt_of_succ_lt hn) rfl]
    exact runs_len (sides 7 h8) rfl (runLast c _ (bufs ⟨7, hn⟩) (ins m c ⟨7, hn⟩) _ yk yv (mt c1.1 (by simp)) (mt c2.1 (by simp)) (mt c3.1 (by simp)) (mt c4.1 (by simp))
      (c5.2 (by simp)) (c6.2 (by simp))) rfl
      ((if_pos rfl).trans (congrArg (fun s : St F => rounded s.dk) (step_len _ _ rfl _ _ _)))
      ((if_pos rfl).trans (congrArg (fun s : St F => rounded s.dv) (step_len _ _ rfl _ _ _)))
  | k + 8, _, _ => exact absurd h8 (by simp)

end Cert.Fox
end
-- ==== Proof.Ends.lean ====
/- The idealized kernel runs to the end, gives its arguments back and leaves its arrays at the grid's sums. -/
module

public import proofs.«01_k».proof.Proof.Point
public import Idealize.ShloMosaic.Lib.Pipeline.TableIdle
public import Idealize.ShloMosaic.Adequacy
public import Idealize.ShloMosaic.Lib.Claim

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of the two sums. -/
abbrev accK : Memref sig .tc .vmem S2048x256 .f32 := Memref.whole cc0_scratch0
abbrev accV : Memref sig .tc .vmem S2048x256 .f32 := Memref.whole cc0_scratch1

/-- Between points: before the first the sums' buffers hold anything, after point `n` what it left. -/
def between (c : Dev nD) : (n : ℕ) → n ≤ cfg0.N → sProp 𝕄
  | 0, _ => Pipeline.ΦA spec0 c
  | n + 1, h => iprop(iprop(owns (c : Thread nD τ) accK fullShare (stateAt m c n h).dk ∗ owns (c : Thread nD τ) accV fullShare (stateAt m c n h).dv)
      ∗ (∃ r, prngReg c r))

theorem start_eq (c : Dev nD) : (Pipeline.ΦA spec0 c : sProp 𝕄)
    = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; try rfl

/-- Each window's buffer after the body at each point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dq (sides t.val (lt8 t)) neg (pt (grid0.coords t)) (ins m c t)
    | ⟨9, _⟩ => rounded (stateAt m c t.val t.isLt).dk
    | ⟨10, _⟩ => rounded (stateAt m c t.val t.isLt).dv
    | ⟨11, _⟩ => dcq (sides t.val (lt8 t)) neg (pt (grid0.coords t)) (ins m c t)
    | ⟨12, _⟩ => (stateAt m c t.val t.isLt).dck
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = X0_0 m c t :=
  before0_0_of m (dats m 0 c) (A_eq m c 0) (fun t => by dsimp only [dats]) t d
theorem before_1 (c : Dev nD) (t : Fin cfg0.N) (d) : (dats m 0 c).before 1 t d = X0_1 m c t :=
  before0_1_of m (dats m 0 c) (A_eq m c 1) (fun t => by dsimp only [dats]) t d
theorem before_2 (c : Dev nD) (t : Fin cfg0.N) (d) : (dats m 0 c).before 2 t d = X0_2 m c t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d

/-- No window is idle at any point, but for the two results stored at the last point only. -/
theorem live (w : Fin cfg0.W) (h9 : w ≠ 9) (h10 : w ≠ 10) : ∀ t : Fin cfg0.N, cfg0.idle w (grid0.coords t) = false := by
  revert w; decide +kernel

theorem live_last (w : Fin cfg0.W) : ∀ t : Fin cfg0.N, t.val = 7 → cfg0.idle w (grid0.coords t) = false := by
  revert w; decide +kernel

theorem idle_before (w : Fin cfg0.W) (h : w = 9 ∨ w = 10) : ∀ t : Fin cfg0.N, t.val ≠ 7 →
    cfg0.idle w (grid0.coords t) = true ∧ (cfg0.win w).flush t = false := by
  revert w; decide +kernel

/-- The row gradient's buffer is written back at the end only. -/
def stale : ℕ → Bool
  | 0 => true
  | n + 1 => n == 7

theorem stale_step : ∀ t : Fin cfg0.N,
    stale (t.val + 1) = ((cfg0.win 12).flush t || (cfg0.idle 12 (cfg0.grid.coords t) && stale t.val)) := by decide +kernel

theorem not_fresh (t : Fin cfg0.N) (h : t.val ≠ 0) : cfg0.fresh 12 t.val = false := by
  rw [Pipeline.Cfg.fresh_tab cfg0 12 stale rfl stale_step t.val (Nat.le_of_lt t.isLt)]
  have := lt8 t
  obtain ⟨n, hn⟩ := t
  cases n with
  | zero => exact absurd rfl h
  | succ n => exact beq_false_of_ne (by simp at this; omega)

/-- After the first point the row gradient's buffer holds what the point before left. -/
theorem before_12 (c : Dev nD) (t : Fin cfg0.N) (k : ℕ) (hk : k < cfg0.N) (h : t.val = k + 1) (d) :
    (dats m 0 c).before 12 t d = (stateAt m c k hk).dck := by
  rw [Dat.before_out_traj _ 12 rfl (fun _ _ => rfl)
      (fun t _ hi _ => by rw [live 12 (by decide) (by decide) t] at hi; exact absurd hi Bool.false_ne_true) t.val t rfl d,
    if_neg (by rw [not_fresh t (by omega)]; exact Bool.false_ne_true)]
  obtain ⟨n, hn⟩ := t
  obtain rfl : n = k + 1 := h
  dsimp only [dats]
  rfl

/-- A window that is not idle is left at what the data say. -/
theorem leaves (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body is given at point `t`, -/
def given (c : Dev nD) (t : Fin cfg0.N) : sProp 𝕄 :=
  iprop((dats m 0 c).Φ t.castSucc ∗ (dats m 0 c).owesAt () t.castSucc
    ∗ (∃ d, owns (c : Thread nD τ) (bufs t).a1 fullShare ((dats m 0 c).before 0 t d))
    ∗ (∃ d, owns (c : Thread nD τ) (bufs t).a2 fullShare ((dats m 0 c).before 1 t d))
    ∗ (∃ d, owns (c : Thread nD τ) (bufs t).a3 fullShare ((dats m 0 c).before 2 t d))
    ∗ (∃ d, owns (c : Thread nD τ) (bufs t).a4 fullShare ((dats m 0 c).before 3 t d))
    ∗ (∃ d, owns (c : Thread nD τ) (bufs t).a5 fullShare ((dats m 0 c).before 4 t d))
    ∗ (∃ d, owns (c : Thread nD τ) (bufs t).a6 fullShare ((dats m 0 c).before 5 t d))
    ∗ (∃ d, owns (c : Thread nD τ) (bufs t).a7 fullShare ((dats m 0 c).before 6 t d))
    ∗ (∃ d, owns (c : Thread nD τ) (bufs t).a8 fullShare ((dats m 0 c).before 7 t d))
    ∗ (∃ d, owns (c : Thread nD τ) (bufs t).a9 fullShare ((dats m 0 c).before 8 t d))
    ∗ (∃ d, owns (c : Thread nD τ) (bufs t).a10 fullShare ((dats m 0 c).before 9 t d))
    ∗ (∃ d, owns (c : Thread nD τ) (bufs t).a11 fullShare ((dats m 0 c).before 10 t d))
    ∗ (∃ d, owns (c : Thread nD τ) (bufs t).a12 fullShare ((dats m 0 c).before 11 t d))
    ∗ (∃ d, owns (c : Thread nD τ) (bufs t).a13 fullShare ((dats m 0 c).before 12 t d)))

/-- and what it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at a point, from what is carried into it. -/
theorem at_point (c : Dev nD) (t : Fin cfg0.N) (s : St F) (hs : ∀ k h, t.val = k + 1 → s = stateAt m c k h) :
    iprop(kept c (bufs t) s ∗ (∃ r, prngReg c r) ∗ (dats m 0 c).owesAt () t.castSucc ∗ held c (bufs t) (ins m c t)
    ∗ (∃ d, owns (c : Thread nD τ) (bufs t).a9 fullShare ((dats m 0 c).before 8 t d))
    ∗ (∃ d, owns (c : Thread nD τ) (bufs t).a10 fullShare ((dats m 0 c).before 9 t d))
    ∗ (∃ d, owns (c : Thread nD τ) (bufs t).a11 fullShare ((dats m 0 c).before 10 t d))
    ∗ (∃ d, owns (c : Thread nD τ) (bufs t).a12 fullShare ((dats m 0 c).before 11 t d)))
      ⊢ wp frame (wpE (defs₀ (F := F)) Variants.none c none) Set.univ (body (grid0.coords t) (bufs t)) (fun _ => returned m c t) := by
  unfold returned
  rw [show (dats m 0 c).owesAt () t.succ = (dats m 0 c).owesAt () t.castSucc from rfl]
  rw [show (dats m 0 c).Φ t.succ = between m c (t.val + 1) t.isLt from rfl]
  unfold between
  rw [leaves m c 0 t (live 0 (by decide) (by decide) t)]
  rw [leaves m c 1 t (live 1 (by decide) (by decide) t)]
  rw [leaves m c 2 t (live 2 (by decide) (by decide) t)]
  rw [leaves m c 3 t (live 3 (by decide) (by decide) t)]
  rw [leaves m c 4 t (live 4 (by decide) (by decide) t)]
  rw [leaves m c 5 t (live 5 (by decide) (by decide) t)]
  rw [leaves m c 6 t (live 6 (by decide) (by decide) t)]
  rw [leaves m c 7 t (live 7 (by decide) (by decide) t)]
  rw [leaves m c 8 t (live 8 (by decide) (by decide) t)]
  rw [leaves m c 11 t (live 11 (by decide) (by decide) t)]
  rw [leaves m c 12 t (live 12 (by decide) (by decide) t)]
  iintro ⟨Hs, Hg, Ho, Hi, ⟨%d8, H8⟩, ⟨%d9, H9⟩, ⟨%d10, H10⟩, ⟨%d11, H11⟩⟩
  have hr := run_at m c t s hs ((dats m 0 c).before 9 t d9) ((dats m 0 c).before 10 t d10)
  unfold Runs at hr
  iapply (hr Set.univ _)
  isplitl [Hi]; · iexact Hi
  isplitl [H8]; · iexists _; iexact H8
  isplitl [H9]; · iexact H9
  isplitl [H10]; · iexact H10
  isplitl [H11]; · iexists _; iexact H11
  isplitl [Hs]; · iexact Hs
  unfold held kept
  iintro ⟨⟨H0, H1, H2, H3, H4, H5, H6, H7⟩, H8, H9, H10, H11, H12, H13, H14⟩
  isplitl [H13 H14 Hg]
  · isplitl [H13 H14]
    · isplitl [H13]; · iexact H13
      iexact H14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h7 : t.val = 7
  · rw [leaves m c 9 t (live_last 9 t h7), leaves m c 10 t (live_last 10 t h7), if_pos h7, if_pos h7]
    isplitl [H9]; · iexact H9
    isplitl [H10]; · iexact H10
    isplitl [H11]; · iexact H11
    iexact H12
  · rw [Dat.leavesExact_idle (dats m 0 c) 9 t (idle_before 9 (.inl rfl) t h7).1 (idle_before 9 (.inl rfl) t h7).2,
      Dat.leavesExact_idle (dats m 0 c) 10 t (idle_before 10 (.inr rfl) t h7).1 (idle_before 10 (.inr rfl) t h7).2, if_neg h7, if_neg h7]
    isplitl [H9]; · iexists _; iexact H9
    isplitl [H10]; · iexists _; iexact H10
    isplitl [H11]; · iexact H11
    iexact H12

set_option maxHeartbeats 4000000 in
/-- The body at every point. -/
theorem sound (c : Dev nD) (t : Fin cfg0.N) :
    given m c t ⊢ wp frame (wpE (defs₀ (F := F)) Variants.none c none) Set.univ (body (grid0.coords t) (bufs t)) (fun _ => returned m c t) := by
  unfold given
  simp only [before_0, before_1, before_2, before_3, before_4, before_5, before_6, before_7]
  rw [show (dats m 0 c).Φ t.castSucc = between m c t.val (Nat.le_of_lt t.isLt) from by
    dsimp only [dats]; exact Pipeline.Dat.Φ_castSucc (between m c) t]
  obtain ⟨n, hn⟩ := t
  cases n with
  | zero =>
    unfold between
    rw [start_eq]
    iintro ⟨⟨⟨⟨%x0, HS0⟩, ⟨%x1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, ⟨%d12, H12⟩⟩
    iapply (at_point m c ⟨0, hn⟩ ⟨(dats m 0 c).before 12 ⟨0, hn⟩ d12, x0, x1⟩ (fun _ _ h => absurd h (by simp)))
    isplitl [HS0 HS1 H12]
    · unfold kept
      isplitl [H12]; · iexact H12
      isplitl [HS0]; · iexact HS0
      iexact HS1
    isplitl [Hg]; · iexact Hg
    isplitl [Ho]; · iexact Ho
    isplitl [H0 H1 H2 H3 H4 H5 H6 H7]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    iexact H11
  | succ k =>
    unfold between
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, ⟨%d12, H12⟩⟩
    rw [before_12 m c ⟨k + 1, hn⟩ k (Nat.lt_of_succ_lt hn) rfl d12]
    iapply (at_point m c ⟨k + 1, hn⟩ (stateAt m c k (Nat.lt_of_succ_lt hn)) (fun j hj h => by obtain rfl : k = j := Nat.succ.inj h; rfl))
    isplitl [HS0 HS1 H12]
    · unfold kept
      isplitl [H12]; · iexact H12
      isplitl [HS0]; · iexact HS0
      iexact HS1
    isplitl [Hg]; · iexact Hg
    isplitl [Ho]; · iexact Ho
    isplitl [H0 H1 H2 H3 H4 H5 H6 H7]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    iexact H11

theorem row_body (t : Fin cfg0.N) :
    defs₀ (F := F) .tc cfg0.body (cfg0.bodyArgs t (cfg0.slots t)) = body (grid0.coords t) (bufs t) := by
  unfold defs₀; rw [Defs.onTc_tc]

theorem obligation (c : Dev nD) : BodyObligation (dats (F := F) m 0 c) (defs₀ (F := F)) Variants.none () Set.univ := fun t => by
  rw [bigSep_W0, bigSep_W0, row_body]
  exact triple_restated (sound m c t) rfl .rfl fun _ => .rfl

theorem enters (c : Dev nD) : Pipeline.ΦA spec0 c ⊢ (dats m 0 c).Φ 0 := by
  rw [show (dats m 0 c).Φ 0 = between m c 0 (Nat.zero_le _) from rfl]
  exact Idealize.SL.BI.Entails.refl _

theorem leave_last (c : Dev nD) : (dats m 0 c).Φ (Fin.last cfg0.N) ⊢ Pipeline.ΦA spec0 c := by
  rw [show (dats m 0 c).Φ (Fin.last cfg0.N) = between m c (7 + 1) (Nat.le_refl _) from rfl, start_eq]
  unfold between
  iintro ⟨⟨HS0, HS1⟩, Hg⟩
  isplitl [HS0 HS1]
  · isplitl [HS0]
    · iexists _; iexact HS0
    iexists _; iexact HS1
  iexact Hg

set_option backward.isDefEq.respectTransparency.types false in
/-- Every run ends, with the arrays at what the data say and every semaphore at zero. -/
theorem ends_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := leave_last m)

theorem ends : θ_run defs (onTc (τ := τ) (main (F := F))) (s₀ m ρ) (Pipeline.FramePost cfgs (dats m) 0 (V m)) :=
  (θ_run defs _ _).mono (fun _ h => h.1) (ends_quiet m ρ)

/-- The idealized kernel's frame. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (ends m ρ)) ((θ_run defs _ _).mono (fun _ h => h.2) (ends_quiet m ρ))

end Cert.Fox
end
-- ==== Proof.WordBody.lean ====
/-
  The attention's kernel and its idealized program are one text but for the named constant. Read on words, with the
  constant at its literal, the two are one program: here the kernel's body, in WordMain the host program around it.
-/
module

public import Idealize.ShloMosaic.PureOps.BitExact
public import Idealize.ShloMosaic.PureOps.Ideal
public import proofs.«01_k».proof.Kernel
public import proofs.«01_k».proof.KernelIdeal
public import proofs.«01_k».proof.Proof.Gen.Kernel
public import proofs.«01_k».proof.Proof.Gen.KernelIdeal

@[expose] public section

set_option maxRecDepth 100000
set_option maxHeartbeats 4000000

noncomputable section

namespace Cert.Fox

open Idealize.ShloMosaic Idealize.ShloMosaic.TcCoe

/-- On words a named constant is its literal. -/
@[reducible] def literal : Named Bits := ⟨fun _ _ {φ} b => Scalar.ofBits φ b⟩

attribute [local instance] literal Cert.Kernel.Gen.facts Cert.KernelIdeal.Gen.facts

/-- The kernel's body. -/
theorem body_eq : Cert.Kernel.cc0_fox (F := Bits) = Cert.KernelIdeal.cc0_fox (F := Bits) := rfl

/-- The table of bodies, which has one entry. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

/-- The table of bodies and pipelines. -/
theorem defs_eq : Cert.Kernel.defs (F := Bits) = Cert.KernelIdeal.defs (F := Bits) :=
  congrArg (Pipeline.defs Cert.Kernel.pcfgs) bodies_eq

end Cert.Fox

end
-- ==== Proof.WordMain.lean ====
/-
  Read on words, the host program around the attention's kernel is the idealized program's.
-/
module

public import proofs.«01_k».proof.Proof.WordBody

@[expose] public section

set_option maxRecDepth 100000
set_option maxHeartbeats 4000000

noncomputable section

namespace Cert.Fox

open Idealize.ShloMosaic

attribute [local instance] literal Cert.Kernel.Gen.facts Cert.KernelIdeal.Gen.facts

/-- The host program. -/
theorem main_eq : Cert.Kernel.main (F := Bits) = Cert.KernelIdeal.main (F := Bits) := rfl

end Cert.Fox

end
-- ==== Proof.Word.lean ====
/-
  The attention's kernel on words ends as its idealized program does: the proof of the latter's frame reads no number,
  and holds of words with the named constant at its literal.
-/
module

public import proofs.«01_k».proof.Defs
public import proofs.«01_k».proof.Proof.WordMain
public import proofs.«01_k».proof.Proof.Ends

@[expose] public section

set_option maxRecDepth 100000
set_option maxHeartbeats 4000000

noncomputable section

namespace Cert.Fox

open Idealize.ShloMosaic Idealize.SL.Sem

attribute [local instance] Cert.Kernel.Gen.facts Cert.KernelIdeal.Gen.facts

/-- The kernel's frame on words. -/
theorem frame_word : Cert.quiescent_Kernel := fun m ρ _ => by
  have h := @frame_ideal Bits _ literal m ρ
  rw [← defs_eq, ← main_eq] at h
  exact h

end Cert.Fox

end
-- ==== Proof.Products.lean ====
/-
  The three matrix products that the layer's calls compute, as sums over the extended reals.
-/
module

public import Idealize.ShloMosaic.Lib.Pointwise

@[expose] public section

noncomputable section

namespace Cert.Products

open Idealize.ShloMosaic

/-- `x w`. -/
def nn (M K N : ℕ) (x : (⟨2, ![M, K]⟩ : Shape).Idx → EReal) (w : (⟨2, ![K, N]⟩ : Shape).Idx → EReal)
    (i : (⟨2, ![M, N]⟩ : Shape).Idx) : EReal := ∑ k : Fin K, x (ix2 (i 0) k) * w (ix2 k (i 1))

/-- `x wᵀ`. -/
def nt (M K N : ℕ) (x : (⟨2, ![M, K]⟩ : Shape).Idx → EReal) (w : (⟨2, ![N, K]⟩ : Shape).Idx → EReal)
    (i : (⟨2, ![M, N]⟩ : Shape).Idx) : EReal := ∑ k : Fin K, x (ix2 (i 0) k) * w (ix2 (i 1) k)

/-- `xᵀ y`. -/
def tn (M K N : ℕ) (x : (⟨2, ![M, K]⟩ : Shape).Idx → EReal) (y : (⟨2, ![M, N]⟩ : Shape).Idx → EReal)
    (i : (⟨2, ![K, N]⟩ : Shape).Idx) : EReal := ∑ r : Fin M, x (ix2 r (i 0)) * y (ix2 r (i 1))

end Cert.Products

end
-- ==== Proof.UpValue.lean ====
/-
  The three calls of the feed-forward layer's first product. The kernels take the weight cut by columns into four parts,
  and its gradient in four parts; the gradient in the input adds the four parts' products into one block of rows.
-/
module

public import proofs.«01_k».proof.Defs
public import proofs.«01_k».proof.Proof.Products
public import proofs.«01_k».proof.Proof.Gen.UpIdeal.Value
public import proofs.«01_k».proof.Proof.Gen.UpDwIdeal.Value
public import proofs.«01_k».proof.Proof.Gen.UpDxIdeal.Value
public import proofs.«01_k».proof.Proof.Gen.UpRefIdeal.Run
public import proofs.«01_k».proof.Proof.Gen.UpDwRefIdeal.Run
public import proofs.«01_k».proof.Proof.Gen.UpDxRefIdeal.Run
public import Idealize.ShloMosaic.Lib.Pipeline.ValueKit
public import Idealize.ShloMosaic.Lib.Claim

@[expose] public section

set_option maxRecDepth 16384

noncomputable section

namespace Cert.Products

open Idealize.ShloMosaic Idealize.ShloMosaic.TcCoe Idealize.SL.Sem

namespace Up
open Cert.UpIdeal Cert.UpIdeal.Gen

/-- The block of each window at a grid point: one part of the weight's columns a point. -/
theorem idx : ∀ t : Fin cfg0.N, win0_0.index t = ![0, 0] ∧ win0_1.index t = ![t.val, 0, 0]
    ∧ win0_2.index t = ![0, t.val] :=
  (by decide +kernel : ∀ t : Fin grid0.N, _)

/-- The kernel's result array is the product of its arguments. -/
theorem final (m : (ℓ : Loc nD τ sig) → Buf (Elt Ideal) ℓ) (c : Dev nD) :
    (dats m 0 c).arrAt 2 cfg0.N
      = nn 2048 1024 5632 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, nn]
  refine Fin.sum_fin_congr fun k => ?_
  congr 1
  · blk_ext [iblk, V_main_arg0, idx t]
  · blk_point [iblk, V, idx t]

end Up

/-- The first product. -/
theorem value_Up : Cert.algebraic_UpIdeal_UpRefIdeal := by
  intro m ρ m' ρ' _ hagree
  refine ⟨_, (θ_run Cert.UpIdeal.defs _ _).mono (fun _ h c => ⟨(h c).1.trans (Up.final m c), (h c).2⟩)
    (Cert.UpIdeal.Value.run_blocks (F := Ideal) m ρ), ?_⟩
  refine (θ_run Cert.UpRefIdeal.defs _ _).mono (fun _ h c => ⟨(h c).1.trans ?_, (h c).2⟩)
    (Cert.UpRefIdeal.Value.run (F := Ideal) m' ρ')
  rw [(hagree c).1, (hagree c).2]
  funext i
  pointwise [nn]

namespace UpDw
open Cert.UpDwIdeal Cert.UpDwIdeal.Gen

/-- The block of each window at a grid point: the first two points read the left half of the incoming gradient, the last
two its right half. -/
theorem idx : ∀ t : Fin cfg0.N, win0_0.index t = ![0, 0] ∧ (t.val < 2 → win0_1.index t = ![0, t.val])
    ∧ (2 ≤ t.val → win0_2.index t = ![0, t.val - 2]) ∧ win0_3.index t = ![t.val, 0, 0] :=
  (by decide +kernel : ∀ t : Fin grid0.N, _)

/-- The gradient in the weight, cut by columns into its four parts. -/
def parts (h : (⟨2, ![2048, 1024]⟩ : Shape).Idx → EReal) (du : (⟨2, ![2048, 5632]⟩ : Shape).Idx → EReal) :
    (⟨3, ![4, 1024, 1408]⟩ : Shape).Idx → EReal :=
  fun i => ∑ k : Fin 2048, h (ix2 k (i 1)) * du (ix2 k ⟨1408 * (i 0).val + (i 2).val, by
    have h0 : (i 0).val < 4 := (i 0).isLt; have h2 : (i 2).val < 1408 := (i 2).isLt; omega⟩)

/-- The kernel's result array is the gradient's four parts. -/
theorem final (m : (ℓ : Loc nD τ sig) → Buf (Elt Ideal) ℓ) (c : Dev nD) :
    (dats m 0 c).arrAt 3 cfg0.N
      = parts (m ((c : Thread nD τ).loc main_arg0)) (m ((c : Thread nD τ).loc main_arg2)) := by
  refine (dats m 0 c).arrAt_eq_of_covers 3 _ (by decide +kernel) fun t hf y => ?_
  blk_simp
  rw [after0_3]
  rcases Nat.lt_or_ge t.val 2 with h | h
  · rw [outsAt0_A m c t h (Nat.not_le.2 h)]
    frame_out
    pointwise [k0_pay1, parts]
    refine Fin.sum_fin_congr fun k => ?_
    congr 1
    · blk_ext [iblk, V_main_arg0, idx t]
    · blk_point [iblk, V, idx t, (idx t).2.1 h]
  · rw [outsAt0_B m c t (Nat.not_lt.2 h) h]
    frame_out
    pointwise [k0_pay2, parts]
    refine Fin.sum_fin_congr fun k => ?_
    congr 1
    · blk_ext [iblk, V_main_arg0, idx t]
    · blk_point [iblk, V, idx t, (idx t).2.2.1 h]

end UpDw

/-- The first product's gradient in its weight. -/
theorem value_UpDw : Cert.algebraic_UpDwIdeal_UpDwRefIdeal := by
  intro m ρ m' ρ' _ hagree
  refine ⟨_, (θ_run Cert.UpDwIdeal.defs _ _).mono (fun _ h c => ⟨(h c).1.trans (UpDw.final m c), (h c).2⟩)
    (Cert.UpDwIdeal.Value.run_blocks (F := Ideal) m ρ), ?_⟩
  refine (θ_run Cert.UpDwRefIdeal.defs _ _).mono (fun _ h c => ⟨(h c).1.trans ?_, (h c).2⟩)
    (Cert.UpDwRefIdeal.Value.run (F := Ideal) m' ρ')
  rw [(hagree c).1, (hagree c).2.2]
  funext i
  pointwise [UpDw.parts]
  fin_vals (i 0) with hk
  all_goals simp only [hk, Nat.reduceSub, Nat.reduceLT, ↓reduceDIte]
  all_goals
    refine Finset.sum_congr rfl fun k _ => (mul_comm _ _).trans ?_
    congr 1
    blk_ext [hk]

namespace UpDx
open Cert.UpDxIdeal Cert.UpDxIdeal.Gen

/-- The block of each window at a grid point: two of a point's row block's four steps read the left half of the incoming
gradient, two its right half. -/
theorem idx : ∀ t : Fin cfg0.N, (t.val % 4 < 2 → win0_0.index t = ![t.val / 4, t.val % 4])
    ∧ (2 ≤ t.val % 4 → win0_1.index t = ![t.val / 4, t.val % 4 - 2])
    ∧ win0_2.index t = ![t.val % 4, 0, 0] ∧ win0_3.index t = ![t.val / 4, 0] :=
  (by decide +kernel : ∀ t : Fin grid0.N, _)

/-- What a grid point adds to its block of rows: the product over the point's 1408 columns. -/
def term (du : (⟨2, ![2048, 5632]⟩ : Shape).Idx → EReal) (w : (⟨2, ![1024, 5632]⟩ : Shape).Idx → EReal) (t : Fin 8)
    (y : (⟨2, ![1024, 1024]⟩ : Shape).Idx) : EReal :=
  ∑ k : Fin 1408,
    du (ix2 ⟨1024 * (t.val / 4) + (y 0).val, by have h : (y 0).val < 1024 := (y 0).isLt; omega⟩
      ⟨1408 * (t.val % 4) + k.val, by omega⟩)
    * w (ix2 (y 1) ⟨1408 * (t.val % 4) + k.val, by omega⟩)

variable (m : (ℓ : Loc nD τ sig) → Buf (Elt Ideal) ℓ) (c : Dev nD)

/-- The first step of a block of rows leaves its term. -/
theorem reset (t : Fin cfg0.N) (h : t.val % 4 = 0) (y : S1024x1024.Idx) :
    outsAt0 m c t.val t.isLt y
      = 0 + term (m ((c : Thread nD τ).loc main_arg2)) (m ((c : Thread nD τ).loc main_arg1)) t y := by
  rw [outsAt0_A m c t h (by omega) (by omega), zero_add]
  frame_out
  pointwise [k0_pay1, term]
  refine Fin.sum_fin_congr fun k => ?_
  congr 1
  · blk_point [iblk, V, idx t, (idx t).1 (by omega)]
  · blk_point [iblk, V, idx t]

/-- Every later step adds its term. -/
theorem step (t : Fin cfg0.N) (h : ¬t.val % 4 = 0) (y : S1024x1024.Idx) :
    outsAt0 m c t.val t.isLt y = outsAt0 m c (t.val - 1) (Nat.lt_of_le_of_lt (Nat.sub_le _ _) t.isLt) y
      + term (m ((c : Thread nD τ).loc main_arg2)) (m ((c : Thread nD τ).loc main_arg1)) t y := by
  rcases Nat.lt_or_ge (t.val % 4) 2 with h2 | h2
  · rw [outsAt0_B m c t h (by omega) (by omega)]
    frame_out
    pointwise [k0_pay2, term]
    congr 1
    refine Fin.sum_fin_congr fun k => ?_
    congr 1
    · blk_point [iblk, V, idx t, (idx t).1 h2]
    · blk_point [iblk, V, idx t]
  · rw [outsAt0_C m c t h (by omega) h2]
    frame_out
    pointwise [k0_pay3, term]
    congr 1
    refine Fin.sum_fin_congr fun k => ?_
    congr 1
    · blk_point [iblk, V, idx t, (idx t).2.1 h2]
    · blk_point [iblk, V, idx t]

/-- The kernel's result array is the product with the whole weight. -/
theorem final : (dats m 0 c).arrAt 3 cfg0.N
    = nt 2048 5632 1024 (m ((c : Thread nD τ).loc main_arg2)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => outsAt0 m c n h) 4 (fun _ => 0) _
    (reset m c) (step m c) t ((flush0_3 t).mp hf) y, zero_add]
  pointwise [term, nt]
  refine Fin.sum_mul_add_congr fun s k hl => ?_
  congr 1 <;> blk_ext [idx t]

end UpDx

/-- The first product's gradient in its input. -/
theorem value_UpDx : Cert.algebraic_UpDxIdeal_UpDxRefIdeal := by
  intro m ρ m' ρ' _ hagree
  refine ⟨_, (θ_run Cert.UpDxIdeal.defs _ _).mono (fun _ h c => ⟨(h c).1.trans (UpDx.final m c), (h c).2⟩)
    (Cert.UpDxIdeal.Value.run_blocks (F := Ideal) m ρ), ?_⟩
  refine (θ_run Cert.UpDxRefIdeal.defs _ _).mono (fun _ h c => ⟨(h c).1.trans ?_, (h c).2⟩)
    (Cert.UpDxRefIdeal.Value.run (F := Ideal) m' ρ')
  rw [(hagree c).2.1, (hagree c).2.2]
  funext i
  pointwise [nt]

end Cert.Products

end
-- ==== Proof.DownValue.lean ====
/-
  The three calls of the feed-forward layer's second product (the product, its weight's gradient, its input's
  gradient): each kernel leaves the whole product in its result array, block by block of rows, and the reference computes the same product.
-/
module

public import proofs.«01_k».proof.Defs
public import proofs.«01_k».proof.Proof.Products
public import proofs.«01_k».proof.Proof.Gen.DownIdeal.Value
public import proofs.«01_k».proof.Proof.Gen.DownDwIdeal.Value
public import proofs.«01_k».proof.Proof.Gen.DownDxIdeal.Value
public import proofs.«01_k».proof.Proof.Gen.DownRefIdeal.Run
public import proofs.«01_k».proof.Proof.Gen.DownDwRefIdeal.Run
public import proofs.«01_k».proof.Proof.Gen.DownDxRefIdeal.Run
public import Idealize.ShloMosaic.Lib.Pipeline.ValueKit
public import Idealize.ShloMosaic.Lib.Claim

@[expose] public section

set_option maxRecDepth 16384

noncomputable section

namespace Cert.Products

open Idealize.ShloMosaic Idealize.ShloMosaic.TcCoe Idealize.SL.Sem

namespace Down
open Cert.DownIdeal Cert.DownIdeal.Gen

/-- The block of each window at a grid point. -/
theorem idx : ∀ t : Fin cfg0.N, win0_0.index t = ![(grid0.coords t 1).val, 0] ∧ win0_1.index t = ![0, 0]
    ∧ win0_2.index t = ![(grid0.coords t 1).val, 0] :=
  (by decide +kernel : ∀ t : Fin grid0.N, _)

/-- The kernel's result array is the product of its arguments. -/
theorem final (m : (ℓ : Loc nD τ sig) → Buf (Elt Ideal) ℓ) (c : Dev nD) :
    (dats m 0 c).arrAt 2 cfg0.N
      = nn 2048 2816 1024 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, nn]
  refine Fin.sum_fin_congr fun k => ?_
  congr 1 <;> blk_ext [iblk, V_main_arg0, V_main_arg1, idx t]

end Down

/-- The second product of the feed-forward layer. -/
theorem value_Down : Cert.algebraic_DownIdeal_DownRefIdeal := by
  intro m ρ m' ρ' _ hagree
  refine ⟨_, (θ_run Cert.DownIdeal.defs _ _).mono (fun _ h c => ⟨(h c).1.trans (Down.final m c), (h c).2⟩)
    (Cert.DownIdeal.Value.run_blocks (F := Ideal) m ρ), ?_⟩
  refine (θ_run Cert.DownRefIdeal.defs _ _).mono (fun _ h c => ⟨(h c).1.trans ?_, (h c).2⟩)
    (Cert.DownRefIdeal.Value.run (F := Ideal) m' ρ')
  rw [(hagree c).1, (hagree c).2]
  funext i
  pointwise [nn]

namespace DownDx
open Cert.DownDxIdeal Cert.DownDxIdeal.Gen

/-- The block of each window at a grid point. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The kernel's result array is the product with the weight's transpose. -/
theorem final (m : (ℓ : Loc nD τ sig) → Buf (Elt Ideal) ℓ) (c : Dev nD) :
    (dats m 0 c).arrAt 2 cfg0.N
      = nt 2048 1024 2816 (m ((c : Thread nD τ).loc main_arg2)) (m ((c : Thread nD τ).loc main_arg1)) := by
  refine (dats m 0 c).arrAt_eq_of_covers 2 _ (by decide +kernel) fun t hf y => ?_
  blk_simp
  rw [after0_2]
  frame_out
  pointwise [k0_pay1, nt]
  refine Fin.sum_fin_congr fun k => ?_
  congr 1 <;> blk_ext [iblk, V_main_arg1, V_main_arg2, idx t]

end DownDx

/-- The second product of the feed-forward layer: its gradient in its input. -/
theorem value_DownDx : Cert.algebraic_DownDxIdeal_DownDxRefIdeal := by
  intro m ρ m' ρ' _ hagree
  refine ⟨_, (θ_run Cert.DownDxIdeal.defs _ _).mono (fun _ h c => ⟨(h c).1.trans (DownDx.final m c), (h c).2⟩)
    (Cert.DownDxIdeal.Value.run_blocks (F := Ideal) m ρ), ?_⟩
  refine (θ_run Cert.DownDxRefIdeal.defs _ _).mono (fun _ h c => ⟨(h c).1.trans ?_, (h c).2⟩)
    (Cert.DownDxRefIdeal.Value.run (F := Ideal) m' ρ')
  rw [(hagree c).2.1, (hagree c).2.2]
  funext i
  pointwise [nt]

/-- The second product of the feed-forward layer: its gradient in its weight: the grid has one point, which writes the whole array. -/
theorem value_DownDw : Cert.algebraic_DownDwIdeal_DownDwRefIdeal := by
  intro m ρ m' ρ' _ hagree
  refine ⟨_, Cert.DownDwIdeal.Value.run (F := Ideal) m ρ, ?_⟩
  refine (θ_run Cert.DownDwRefIdeal.defs _ _).mono (fun _ h c => ⟨(h c).1.trans ?_, (h c).2⟩)
    (Cert.DownDwRefIdeal.Value.run (F := Ideal) m' ρ')
  rw [(hagree c).1, (hagree c).2.2]
  funext i
  pointwise [Cert.DownDwIdeal.Value.G2, Cert.DownDwIdeal.Gen.k0_pay1]
  exact Finset.sum_congr rfl fun k _ => mul_comm _ _

end Cert.Products

end
-- ==== Proof.OutValue.lean ====
/-
  The output projection's three calls (the product itself, its weight's gradient, its input's gradient): each kernel
  leaves the whole product in its result array, block by block of rows, and the reference computes the same product.
-/
module

public import proofs.«01_k».proof.Defs
public import proofs.«01_k».proof.Proof.Products
public import proofs.«01_k».proof.Proof.Gen.OutIdeal.Value
public import proofs.«01_k».proof.Proof.Gen.OutDwIdeal.Value
public import proofs.«01_k».proof.Proof.Gen.OutDxIdeal.Value
public import proofs.«01_k».proof.Proof.Gen.OutRefIdeal.Run
public import proofs.«01_k».proof.Proof.Gen.OutDwRefIdeal.Run
public import proofs.«01_k».proof.Proof.Gen.OutDxRefIdeal.Run
public import Idealize.ShloMosaic.Lib.Pipeline.ValueKit
public import Idealize.ShloMosaic.Lib.Claim

@[expose] public section

set_option maxRecDepth 16384

noncomputable section

namespace Cert.Products

open Idealize.ShloMosaic Idealize.ShloMosaic.TcCoe Idealize.SL.Sem

namespace Out
open Cert.OutIdeal Cert.OutIdeal.Gen

/-- The block of each window at a grid point. -/
theorem idx : ∀ t : Fin cfg0.N, win0_0.index t = ![(grid0.coords t 1).val, 0] ∧ win0_1.index t = ![0, 0]
    ∧ win0_2.index t = ![(grid0.coords t 1).val, 0] :=
  (by decide +kernel : ∀ t : Fin grid0.N, _)

/-- The kernel's result array is the product of its arguments. -/
theorem final (m : (ℓ : Loc nD τ sig) → Buf (Elt Ideal) ℓ) (c : Dev nD) :
    (dats m 0 c).arrAt 2 cfg0.N
      = nn 2048 1024 1024 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, nn]
  refine Fin.sum_fin_congr fun k => ?_
  congr 1 <;> blk_ext [iblk, V_main_arg0, V_main_arg1, idx t]

end Out

/-- The output projection. -/
theorem value_Out : Cert.algebraic_OutIdeal_OutRefIdeal := by
  intro m ρ m' ρ' _ hagree
  refine ⟨_, (θ_run Cert.OutIdeal.defs _ _).mono (fun _ h c => ⟨(h c).1.trans (Out.final m c), (h c).2⟩)
    (Cert.OutIdeal.Value.run_blocks (F := Ideal) m ρ), ?_⟩
  refine (θ_run Cert.OutRefIdeal.defs _ _).mono (fun _ h c => ⟨(h c).1.trans ?_, (h c).2⟩)
    (Cert.OutRefIdeal.Value.run (F := Ideal) m' ρ')
  rw [(hagree c).1, (hagree c).2]
  funext i
  pointwise [nn]

namespace OutDx
open Cert.OutDxIdeal Cert.OutDxIdeal.Gen

/-- The block of each window at a grid point. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The kernel's result array is the product with the weight's transpose. -/
theorem final (m : (ℓ : Loc nD τ sig) → Buf (Elt Ideal) ℓ) (c : Dev nD) :
    (dats m 0 c).arrAt 2 cfg0.N
      = nt 2048 1024 1024 (m ((c : Thread nD τ).loc main_arg2)) (m ((c : Thread nD τ).loc main_arg1)) := by
  refine (dats m 0 c).arrAt_eq_of_covers 2 _ (by decide +kernel) fun t hf y => ?_
  blk_simp
  rw [after0_2]
  frame_out
  pointwise [k0_pay1, nt]
  refine Fin.sum_fin_congr fun k => ?_
  congr 1 <;> blk_ext [iblk, V_main_arg1, V_main_arg2, idx t]

end OutDx

/-- The output projection's gradient in its input. -/
theorem value_OutDx : Cert.algebraic_OutDxIdeal_OutDxRefIdeal := by
  intro m ρ m' ρ' _ hagree
  refine ⟨_, (θ_run Cert.OutDxIdeal.defs _ _).mono (fun _ h c => ⟨(h c).1.trans (OutDx.final m c), (h c).2⟩)
    (Cert.OutDxIdeal.Value.run_blocks (F := Ideal) m ρ), ?_⟩
  refine (θ_run Cert.OutDxRefIdeal.defs _ _).mono (fun _ h c => ⟨(h c).1.trans ?_, (h c).2⟩)
    (Cert.OutDxRefIdeal.Value.run (F := Ideal) m' ρ')
  rw [(hagree c).2.1, (hagree c).2.2]
  funext i
  pointwise [nt]

/-- The output projection's gradient in its weight: the grid has one point, which writes the whole array. -/
theorem value_OutDw : Cert.algebraic_OutDwIdeal_OutDwRefIdeal := by
  intro m ρ m' ρ' _ hagree
  refine ⟨_, Cert.OutDwIdeal.Value.run (F := Ideal) m ρ, ?_⟩
  refine (θ_run Cert.OutDwRefIdeal.defs _ _).mono (fun _ h c => ⟨(h c).1.trans ?_, (h c).2⟩)
    (Cert.OutDwRefIdeal.Value.run (F := Ideal) m' ρ')
  rw [(hagree c).1, (hagree c).2.2]
  funext i
  pointwise [Cert.OutDwIdeal.Value.G2, Cert.OutDwIdeal.Gen.k0_pay1]
  exact Finset.sum_congr rfl fun k _ => mul_comm _ _

end Cert.Products

end
-- ==== Proof.SideBySide.lean ====
/-
  Matrices laid side by side, a row of them read: two such lists whose pieces agree along a row each have the same row.
-/
module

public import Idealize.ShloMosaic.Lib.Pointwise

@[expose] public section

namespace Cert.Products

open Idealize.ShloMosaic

variable {α : Type} {M M' L : ℕ}

/-- The last piece. -/
theorem side_last {n : ℕ} (j : (⟨2, ![M, L]⟩ : Shape).Idx) (j' : (⟨2, ![M', L]⟩ : Shape).Idx)
    (x : (⟨2, ![M, n]⟩ : Shape).Idx → α) (x' : (⟨2, ![M', n]⟩ : Shape).Idx → α)
    (hx : ∀ l : Fin n, x (ix2 (j 0) l) = x' (ix2 (j' 0) l)) (hs) (hs') (c : ℕ) (hc) (hc') :
    concatenateAt ⟨2, ![M, L]⟩ 1 j [⟨⟨2, ![M, n]⟩, x⟩] hs c hc
      = concatenateAt ⟨2, ![M', L]⟩ 1 j' [⟨⟨2, ![M', n]⟩, x'⟩] hs' c hc' := by
  have hn : c < n := by simpa [axisSizes] using hc
  rw [concatenateAt_singleton, concatenateAt_singleton]
  refine Eq.trans (congrArg x ?_) ((hx ⟨c, hn⟩).trans (congrArg x' ?_)) <;>
    exact funext fun b => Fin.ext (by match b with | ⟨0, _⟩ => rfl | ⟨1, _⟩ => rfl)

/-- One piece more in front. -/
theorem side_cons {n : ℕ} (j : (⟨2, ![M, L]⟩ : Shape).Idx) (j' : (⟨2, ![M', L]⟩ : Shape).Idx)
    (x : (⟨2, ![M, n]⟩ : Shape).Idx → α) (x' : (⟨2, ![M', n]⟩ : Shape).Idx → α)
    (q q' : (s : Shape) × (s.Idx → α)) (xs xs' : List ((s : Shape) × (s.Idx → α)))
    (rest : ∀ hs hs' c hc hc', concatenateAt ⟨2, ![M, L]⟩ 1 j (q :: xs) hs c hc
      = concatenateAt ⟨2, ![M', L]⟩ 1 j' (q' :: xs') hs' c hc')
    (hx : ∀ l : Fin n, x (ix2 (j 0) l) = x' (ix2 (j' 0) l)) (hs) (hs') (c : ℕ) (hc) (hc') :
    concatenateAt ⟨2, ![M, L]⟩ 1 j (⟨⟨2, ![M, n]⟩, x⟩ :: q :: xs) hs c hc
      = concatenateAt ⟨2, ![M', L]⟩ 1 j' (⟨⟨2, ![M', n]⟩, x'⟩ :: q' :: xs') hs' c hc' := by
  rw [concatenateAt_cons, concatenateAt_cons]
  refine dite_congr rfl (fun h => ?_) fun h => rest _ _ _ _ _
  refine Eq.trans (congrArg x ?_) ((hx ⟨c, h⟩).trans (congrArg x' ?_)) <;>
    exact funext fun b => Fin.ext (by match b with | ⟨0, _⟩ => rfl | ⟨1, _⟩ => rfl)

/-- The pieces laid side by side, at two indices of one column. -/
theorem side_by_side (j : (⟨2, ![M, L]⟩ : Shape).Idx) (j' : (⟨2, ![M', L]⟩ : Shape).Idx) (e : (j 1).val = (j' 1).val)
    (xs xs' : List ((s : Shape) × (s.Idx → α))) (h) (h')
    (pieces : ∀ hs hs' c hc hc', concatenateAt ⟨2, ![M, L]⟩ 1 j xs hs c hc
      = concatenateAt ⟨2, ![M', L]⟩ 1 j' xs' hs' c hc') :
    concatenate ⟨2, ![M, L]⟩ 1 xs h j = concatenate ⟨2, ![M', L]⟩ 1 xs' h' j' := by
  rw [concatenate_apply, concatenate_apply, pieces _ h'.2.1 _ _ (by rw [h'.2.2, e]; exact (j' 1).isLt)]
  congr 1

end Cert.Products

end
-- ==== Proof.InValue.lean ====
/-
  The input projection's three calls, at the weight's rows as the step lays them out (one row for each column of `z`): the
  product with the transposed weight, and the two gradients from the eleven pieces of `z`'s gradient, which the kernels
  lay side by side in a block and the reference side by side as whole arrays.
-/
module

public import proofs.«01_k».proof.Defs
public import proofs.«01_k».proof.Proof.Products
public import proofs.«01_k».proof.Proof.SideBySide
public import proofs.«01_k».proof.Proof.Gen.InIdeal.Value
public import proofs.«01_k».proof.Proof.Gen.InDwIdeal.Value
public import proofs.«01_k».proof.Proof.Gen.InDxIdeal.Value
public import proofs.«01_k».proof.Proof.Gen.InRefIdeal.Run
public import proofs.«01_k».proof.Proof.Gen.InDwRefIdeal.Run
public import proofs.«01_k».proof.Proof.Gen.InDxRefIdeal.Run
public import Idealize.ShloMosaic.Lib.Pipeline.ValueKit
public import Idealize.ShloMosaic.Lib.Claim

@[expose] public section

set_option maxRecDepth 16384

noncomputable section

namespace Cert.Products

open Idealize.ShloMosaic Idealize.ShloMosaic.TcCoe Idealize.SL.Sem

namespace In
open Cert.InIdeal Cert.InIdeal.Gen

/-- The block of each window at a grid point. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The kernel's result array is the product with the weight's transpose. -/
theorem final (m : (ℓ : Loc nD τ sig) → Buf (Elt Ideal) ℓ) (c : Dev nD) :
    (dats m 0 c).arrAt 2 cfg0.N
      = nt 2048 1024 2432 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, nt]
  refine Fin.sum_fin_congr fun k => ?_
  congr 1 <;> blk_ext [iblk, V_main_arg0, V_main_arg1, idx t]

end In

/-- The input projection. -/
theorem value_In : Cert.algebraic_InIdeal_InRefIdeal := by
  intro m ρ m' ρ' _ hagree
  refine ⟨_, (θ_run Cert.InIdeal.defs _ _).mono (fun _ h c => ⟨(h c).1.trans (In.final m c), (h c).2⟩)
    (Cert.InIdeal.Value.run_blocks (F := Ideal) m ρ), ?_⟩
  refine (θ_run Cert.InRefIdeal.defs _ _).mono (fun _ h c => ⟨(h c).1.trans ?_, (h c).2⟩)
    (Cert.InRefIdeal.Value.run (F := Ideal) m' ρ')
  rw [(hagree c).1, (hagree c).2]
  funext i
  pointwise [nt]

/-- A product with its left operand transposed, over any left operand: what the kernel's body and the reference make of it. -/
theorem tn_eq (x : Cert.InDwRefIdeal.S2048x2432.Idx → EReal) (h : Cert.InDwRefIdeal.S2048x1024.Idx → EReal) :
    truncf (F := Ideal) .bf16 (transpose Cert.InDwRefIdeal.S2432x1024 [1, 0] (transpose Cert.InDwRefIdeal.S1024x2432 [1, 0]
        (Host.dotGeneral (F := Ideal) (φ₁ := .f32) (φ₂ := .f32) Cert.InDwRefIdeal.dot_S2048x2432_S2048x1024_S2432x1024_0_0_1_1_n_n none x h)
        (by decide)) (by decide))
        (by decide)
      = truncf (F := Ideal) .bf16 (matmul (F := Ideal) (φ₁ := .f32) (φ₂ := .f32) Cert.InDwIdeal.dot_S2048x2432_S2048x1024_S2432x1024_0_0_1_1_n_n none x h
          (constant Cert.InDwIdeal.S2432x1024 .f32 0x00000000#32)) (by decide) := by
  funext i
  pointwise

/-- The input projection's gradient in its weight: the grid has one point, which writes the whole array. -/
theorem value_InDw : Cert.algebraic_InDwIdeal_InDwRefIdeal := by
  intro m ρ m' ρ' _ hagree
  refine ⟨_, Cert.InDwIdeal.Value.run (F := Ideal) m ρ, ?_⟩
  refine (θ_run Cert.InDwRefIdeal.defs _ _).mono (fun _ h c => ⟨(h c).1.trans ?_, (h c).2⟩)
    (Cert.InDwRefIdeal.Value.run (F := Ideal) m' ρ')
  obtain ⟨e0, -, e2, e3, e4, e5, e6, e7, e8, e9, e10, e11, e12⟩ := hagree c
  rw [e0, e2, e3, e4, e5, e6, e7, e8, e9, e10, e11, e12]
  exact tn_eq _ _

namespace InDx
open Cert.InDxIdeal Cert.InDxIdeal.Gen

/-- The block of each window at a grid point. -/
theorem idx : ∀ t : Fin cfg0.N, (win0_0.index t = ![(grid0.coords t 1).val, 0] ∧ win0_1.index t = ![(grid0.coords t 1).val, 0]
    ∧ win0_2.index t = ![(grid0.coords t 1).val, 0] ∧ win0_3.index t = ![(grid0.coords t 1).val, 0]
    ∧ win0_4.index t = ![(grid0.coords t 1).val, 0] ∧ win0_5.index t = ![(grid0.coords t 1).val, 0]
    ∧ win0_6.index t = ![(grid0.coords t 1).val, 0] ∧ win0_7.index t = ![(grid0.coords t 1).val, 0]
    ∧ win0_8.index t = ![(grid0.coords t 1).val, 0] ∧ win0_9.index t = ![(grid0.coords t 1).val, 0]
    ∧ win0_10.index t = ![(grid0.coords t 1).val, 0]) ∧ win0_11.index t = ![0, 0]
    ∧ win0_12.index t = ![(grid0.coords t 1).val, 0] :=
  (by decide +kernel : ∀ t : Fin grid0.N, _)

/-- The body's product over any left operand. -/
theorem block_apply (x : S1024x2432.Idx → EReal) (w : S2432x1024.Idx → EReal) (y : S1024x1024.Idx) :
    matmul (F := Ideal) (φ₁ := .f32) (φ₂ := .f32) dot_S1024x2432_S2432x1024_S1024x1024_1_0_0_1_n_n none x w
        (constant S1024x1024 .f32 0x00000000#32) y = ∑ k : Fin 2432, x (ix2 (y 0) k) * w (ix2 k (y 1)) := by
  pointwise

/-- The reference's product over any left operand. -/
theorem whole_apply (x : Cert.InDxRefIdeal.S2048x2432.Idx → EReal) (w : Cert.InDxRefIdeal.S2432x1024.Idx → EReal)
    (i : Cert.InDxRefIdeal.S2048x1024.Idx) :
    Host.dotGeneral (F := Ideal) (φ₁ := .f32) (φ₂ := .f32) Cert.InDxRefIdeal.dot_S2048x2432_S1024x2432_S2048x1024_1_1_0_0_n_n none x
        (transpose Cert.InDxRefIdeal.S1024x2432 [1, 0] w (by decide)) i
      = ∑ k : Fin 2432, x (ix2 (i 0) k) * w (ix2 k (i 1)) := by
  pointwise

end InDx

/-- The input projection's gradient in its input. -/
theorem value_InDx : Cert.algebraic_InDxIdeal_InDxRefIdeal := by
  intro m ρ m' ρ' _ hagree
  refine ⟨_, Cert.InDxIdeal.Value.run_blocks (F := Ideal) m ρ, ?_⟩
  refine (θ_run Cert.InDxRefIdeal.defs _ _).mono (fun _ h c => ⟨(h c).1.trans ?_, (h c).2⟩)
    (Cert.InDxRefIdeal.Value.run (F := Ideal) m' ρ')
  obtain ⟨-, e1, e2, e3, e4, e5, e6, e7, e8, e9, e10, e11, e12⟩ := hagree c
  rw [e1, e2, e3, e4, e5, e6, e7, e8, e9, e10, e11, e12]
  refine Eq.symm ((Cert.InDxIdeal.Gen.dats m 0 c).arrAt_eq_of_covers 12 _ (by decide +kernel) fun t hf y => ?_)
  blk_simp
  rw [Cert.InDxIdeal.Gen.after0_12]
  frame_out
  refine (InDx.block_apply _ _ y).trans (Eq.trans ?_ (InDx.whole_apply _ _ _).symm)
  refine Fin.sum_fin_congr fun k => ?_
  congr 1
  · refine side_by_side (M := 1024) (M' := 2048) (L := 2432) (ix2 (y 0) k) (ix2 _ k) rfl _ _ _ _ ?_
    iterate 10 refine side_cons _ _ _ _ _ _ _ _ ?_ fun l => ?_
    · exact side_last _ _ _ _ fun l => by blk_point [Cert.InDxIdeal.Gen.iblk, Cert.InDxIdeal.Gen.V, InDx.idx t]
    all_goals blk_point [Cert.InDxIdeal.Gen.iblk, Cert.InDxIdeal.Gen.V, InDx.idx t]
  · blk_ext [Cert.InDxIdeal.Gen.iblk, Cert.InDxIdeal.Gen.V_main_arg1, InDx.idx t]

end Cert.Products

end
-- ==== Proof.AdamValue.lean ====
/-
  The optimiser's calls: AdamW's step on a weight's shard, from the gradient's two halves. A kernel steps block by block
  through the arrays with the operations of the reference, entry by entry.
-/
module

public import proofs.«01_k».proof.Defs
public import proofs.«01_k».proof.Proof.Gen.AdamOutIdeal.Value
public import proofs.«01_k».proof.Proof.Gen.AdamOutRefIdeal.Run
public import proofs.«01_k».proof.Proof.Gen.AdamUpIdeal.Value
public import proofs.«01_k».proof.Proof.Gen.AdamUpRefIdeal.Run
public import proofs.«01_k».proof.Proof.Gen.AdamDownIdeal.Value
public import proofs.«01_k».proof.Proof.Gen.AdamDownRefIdeal.Run
public import proofs.«01_k».proof.Proof.Gen.AdamConvIdeal.Value
public import proofs.«01_k».proof.Proof.Gen.AdamConvRefIdeal.Run
public import proofs.«01_k».proof.Proof.Gen.AdamPointIdeal.Value
public import proofs.«01_k».proof.Proof.Gen.AdamPointRefIdeal.Run
public import proofs.«01_k».proof.Proof.Gen.AdamGateIdeal.Value
public import proofs.«01_k».proof.Proof.Gen.AdamGateRefIdeal.Run
public import proofs.«01_k».proof.Proof.Gen.AdamInIdeal.Value
public import proofs.«01_k».proof.Proof.Gen.AdamInRefIdeal.Run
public import Idealize.ShloMosaic.PureOps.Ideal
public import Idealize.ShloMosaic.Lib.Claim

@[expose] public section

set_option maxRecDepth 16384

noncomputable section

namespace Cert.Adam

open Idealize.ShloMosaic Idealize.ShloMosaic.TcCoe Idealize.SL.Sem

/-- The output projection's weight. -/
theorem value_AdamOut : Cert.algebraic_AdamOutIdeal_AdamOutRefIdeal := by
  intro m ρ m' ρ' _ hagree
  refine ⟨_, _, _, _, Cert.AdamOutIdeal.Value.run (F := Ideal) m ρ, (θ_run Cert.AdamOutRefIdeal.defs _ _).mono
    (fun _ h c => ?_) (Cert.AdamOutRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

/-- The first feed-forward weight. -/
theorem value_AdamUp : Cert.algebraic_AdamUpIdeal_AdamUpRefIdeal := by
  intro m ρ m' ρ' _ hagree
  refine ⟨_, _, _, _, Cert.AdamUpIdeal.Value.run (F := Ideal) m ρ, (θ_run Cert.AdamUpRefIdeal.defs _ _).mono
    (fun _ h c => ?_) (Cert.AdamUpRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

/-- The second feed-forward weight. -/
theorem value_AdamDown : Cert.algebraic_AdamDownIdeal_AdamDownRefIdeal := by
  intro m ρ m' ρ' _ hagree
  refine ⟨_, _, _, _, Cert.AdamDownIdeal.Value.run (F := Ideal) m ρ, (θ_run Cert.AdamDownRefIdeal.defs _ _).mono
    (fun _ h c => ?_) (Cert.AdamDownRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

/-- The depthwise convolution's taps. -/
theorem value_AdamConv : Cert.algebraic_AdamConvIdeal_AdamConvRefIdeal := by
  intro m ρ m' ρ' _ hagree
  refine ⟨_, _, _, _, Cert.AdamConvIdeal.Value.run (F := Ideal) m ρ, (θ_run Cert.AdamConvRefIdeal.defs _ _).mono
    (fun _ h c => ?_) (Cert.AdamConvRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

/-- The pointwise convolution's weight. -/
theorem value_AdamPoint : Cert.algebraic_AdamPointIdeal_AdamPointRefIdeal := by
  intro m ρ m' ρ' _ hagree
  refine ⟨_, _, _, _, Cert.AdamPointIdeal.Value.run (F := Ideal) m ρ, (θ_run Cert.AdamPointRefIdeal.defs _ _).mono
    (fun _ h c => ?_) (Cert.AdamPointRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

/-- The feed-forward layer's convolution's taps. -/
theorem value_AdamGate : Cert.algebraic_AdamGateIdeal_AdamGateRefIdeal := by
  intro m ρ m' ρ' _ hagree
  refine ⟨_, _, _, _, Cert.AdamGateIdeal.Value.run (F := Ideal) m ρ, (θ_run Cert.AdamGateRefIdeal.defs _ _).mono
    (fun _ h c => ?_) (Cert.AdamGateRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

/-- The input projection's weight, transposed. -/
theorem value_AdamIn : Cert.algebraic_AdamInIdeal_AdamInRefIdeal := by
  intro m ρ m' ρ' _ hagree
  refine ⟨_, _, _, _, Cert.AdamInIdeal.Value.run (F := Ideal) m ρ, (θ_run Cert.AdamInRefIdeal.defs _ _).mono
    (fun _ h c => ?_) (Cert.AdamInRefIdeal.Value.run (F := Ideal) m' ρ')⟩
  have h := h c
  obtain ⟨h0, h1, h2, h3, h4⟩ := hagree c
  refine ⟨h.1.trans ?_, h.2.1.trans ?_, h.2.2.1.trans ?_, h.2.2.2.1.trans ?_, h.2.2.2.2⟩ <;>
    simp only [h0, h1, h2, h3, h4] <;> rfl

end Cert.Adam

end
-- ==== Proof.NormValue.lean ====
/-
  The gradient of the modulated RMS norm: the kernel takes the rows in four blocks, writes each block of the gradient in
  the rows, and adds up over the blocks what the rows give to the gain, the scale and the shift.
-/
module

public import proofs.«01_k».proof.Defs
public import proofs.«01_k».proof.Proof.Gen.NormIdeal.Value
public import proofs.«01_k».proof.Proof.Gen.NormRefIdeal.Run
public import Idealize.ShloMosaic.Lib.Pipeline.ValueKit
public import Idealize.ShloMosaic.Lib.Claim

@[expose] public section

set_option maxRecDepth 16384

noncomputable section

namespace Cert.Norms

open Idealize.ShloMosaic Idealize.ShloMosaic.TcCoe Idealize.SL.Sem

section Math

variable {M M' : ℕ} (x dh d : (⟨2, ![M, 1024]⟩ : Shape).Idx → EReal) (g sc : (⟨2, ![1, 1024]⟩ : Shape).Idx → EReal)

/-- A row's mean square, with the norm's small constant. -/
def ms (r : Fin M) : EReal :=
  Ideal.div (∑ k : Fin 1024, x (ix2 r k) * x (ix2 r k)) (Ideal.ofBits .f32 0x44800000#32) + Ideal.ofBits .f32 0x358637BD#32

/-- What a row's mean square passes back to each of the row's entries, but for the entry itself. -/
def slope (r : Fin M) : EReal :=
  ∑ _s : Fin 1, Ideal.div ((∑ k : Fin 1024, x (ix2 r k) * (dh (ix2 r k) * (1 + sc (ix2 0 k)) * g (ix2 0 k)))
    * (Ideal.ofBits .f32 0xBF000000#32 * Ideal.div (Ideal.rsqrt (ms x r)) (ms x r))) (Ideal.ofBits .f32 0x44800000#32)

/-- The gradient in a row's entry, added to `d`. -/
def dx (r : Fin M) (j : Fin 1024) : EReal :=
  d (ix2 r j) + (dh (ix2 r j) * (1 + sc (ix2 0 j)) * g (ix2 0 j) * Ideal.rsqrt (ms x r)
    + x (ix2 r j) * slope x dh g sc r + slope x dh g sc r * x (ix2 r j))

/-- What a row's entry gives to the gain's gradient. -/
def eg (r : Fin M) (j : Fin 1024) : EReal :=
  x (ix2 r j) * Ideal.rsqrt (ms x r) * (dh (ix2 r j) * (1 + sc (ix2 0 j)))

/-- What a row's entry gives to the scale's gradient. -/
def es (r : Fin M) (j : Fin 1024) : EReal :=
  x (ix2 r j) * Ideal.rsqrt (ms x r) * g (ix2 0 j) * dh (ix2 r j)

/-- What a row's entry gives to the shift's gradient. -/
def eh (r : Fin M) (j : Fin 1024) : EReal :=
  dh (ix2 r j)

variable {x dh d} {x' dh' d' : (⟨2, ![M', 1024]⟩ : Shape).Idx → EReal} {r : Fin M} {r' : Fin M'}

/-- Each of these reads one row of its arrays. -/
theorem dx_congr (hx : ∀ k, x (ix2 r k) = x' (ix2 r' k)) (hh : ∀ k, dh (ix2 r k) = dh' (ix2 r' k))
    (hd : ∀ k, d (ix2 r k) = d' (ix2 r' k)) (j : Fin 1024) : dx x dh d g sc r j = dx x' dh' d' g sc r' j := by
  simp only [dx, slope, ms, hx, hh, hd]

theorem eg_congr (hx : ∀ k, x (ix2 r k) = x' (ix2 r' k)) (hh : ∀ k, dh (ix2 r k) = dh' (ix2 r' k)) (j : Fin 1024) :
    eg x dh sc r j = eg x' dh' sc r' j := by
  simp only [eg, ms, hx, hh]

theorem es_congr (hx : ∀ k, x (ix2 r k) = x' (ix2 r' k)) (hh : ∀ k, dh (ix2 r k) = dh' (ix2 r' k)) (j : Fin 1024) :
    es x dh g r j = es x' dh' g r' j := by
  simp only [es, ms, hx, hh]

theorem eh_congr (hh : ∀ k, dh (ix2 r k) = dh' (ix2 r' k)) (j : Fin 1024) : eh dh r j = eh dh' r' j :=
  hh j

end Math

section Kernel

open Cert.NormIdeal Cert.NormIdeal.Gen

/-- The block of each window at a grid point. -/
theorem idx : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD)

/-- The rows that a grid point reads. -/
def row (t : Fin 4) (r : Fin 512) : Fin 2048 := ⟨t.val * 512 + r.val, by omega⟩

/-- What each window's block holds of its array. -/
theorem blk_x (t : Fin cfg0.N) (r : Fin 512) (k : Fin 1024) : iblk m c 0 t (ix2 r k : S512x1024.Idx)
    = m ((c : Thread nD τ).loc main_arg0) (ix2 (row t r) k : S2048x1024.Idx) := by
  blk_point [iblk, V, idx t, row]

theorem blk_dh (t : Fin cfg0.N) (r : Fin 512) (k : Fin 1024) : iblk m c 4 t (ix2 r k : S512x1024.Idx)
    = m ((c : Thread nD τ).loc main_arg4) (ix2 (row t r) k : S2048x1024.Idx) := by
  blk_point [iblk, V, idx t, row]

theorem blk_d (t : Fin cfg0.N) (r : Fin 512) (k : Fin 1024) : iblk m c 5 t (ix2 r k : S512x1024.Idx)
    = m ((c : Thread nD τ).loc main_arg5) (ix2 (row t r) k : S2048x1024.Idx) := by
  blk_point [iblk, V, idx t, row]

theorem blk_g (t : Fin cfg0.N) : iblk m c 1 t = (m ((c : Thread nD τ).loc main_arg1) : S1x1024.Idx → EReal) := by
  funext j
  blk_point [iblk, V, idx t]

theorem blk_sc (t : Fin cfg0.N) : iblk m c 2 t = (m ((c : Thread nD τ).loc main_arg2) : S1x1024.Idx → EReal) := by
  funext j
  blk_point [iblk, V, idx t]

/-- A point's block of the gradient in the rows. -/
theorem block6 (t : Fin cfg0.N) (y : S512x1024.Idx) : (outsAt0 m c t.val t.isLt).1 y
    = dx (iblk m c 0 t) (iblk m c 4 t) (iblk m c 5 t) (iblk m c 1 t) (iblk m c 2 t) (y 0) (y 1) := by
  have := t.isLt
  have : cfg0.N = 4 := rfl
  by_cases h : t.val % 4 = 0
  · rw [outsAt0_A m c t h (by omega) h (by omega) h (by omega)]
    frame_out
    pointwise [k0_pay1, k0_pay14, k0_pay15, k0_pay16, k0_pay13, k0_pay11, k0_pay8, k0_pay7, k0_pay6, k0_pay5, dx, slope, ms]
  · rw [outsAt0_B m c t h (by omega) h (by omega) h (by omega)]
    frame_out
    pointwise [k0_pay1, k0_pay14, k0_pay15, k0_pay16, k0_pay13, k0_pay11, k0_pay8, k0_pay7, k0_pay6, k0_pay5, dx, slope, ms]

/-- The gradient in the rows. -/
def G6 : S2048x1024.Idx → EReal := fun i =>
  dx (m ((c : Thread nD τ).loc main_arg0)) (m ((c : Thread nD τ).loc main_arg4)) (m ((c : Thread nD τ).loc main_arg5))
    (m ((c : Thread nD τ).loc main_arg1)) (m ((c : Thread nD τ).loc main_arg2)) (i 0) (i 1)

/-- The rows' result array is their gradient. -/
theorem final6 : (dats m 0 c).arrAt 6 cfg0.N = G6 m c := by
  refine (dats m 0 c).arrAt_eq_of_covers 6 _ (by decide +kernel) fun t _ y => ?_
  rw [after0_6]
  blk_simp
  have e : (win0_6.blk t).view.emb y = (ix2 (row t (y 0)) (y 1) : S2048x1024.Idx) := by
    blk_ext [idx t, row]
  rw [e]
  refine (block6 m c t y).trans ?_
  rw [blk_g, blk_sc]
  exact dx_congr _ _ (blk_x m c t _) (blk_dh m c t _) (blk_d m c t _) _

/-- What a point's rows give to the gain's gradient. -/
def term7 (t : Fin 4) (i : S1x1024.Idx) : EReal :=
  ∑ r : Fin 512, eg (m ((c : Thread nD τ).loc main_arg0)) (m ((c : Thread nD τ).loc main_arg4)) (m ((c : Thread nD τ).loc main_arg2)) (row t r) (i 1)

/-- The same of the blocks that the point holds. -/
theorem term7_eq (t : Fin cfg0.N) (y : S1x1024.Idx) : term7 m c t y
    = ∑ r : Fin 512, eg (iblk m c 0 t) (iblk m c 4 t) (iblk m c 2 t) r (y 1) := by
  rw [blk_sc]
  exact Fin.sum_fin_congr fun r => (eg_congr _ (blk_x m c t r) (blk_dh m c t r) _).symm

/-- The first point leaves its term. -/
theorem reset7 (t : Fin cfg0.N) (h : t.val % 4 = 0) (y : S1x1024.Idx) :
    (outsAt0 m c t.val t.isLt).2.1 y = 0 + term7 m c t y := by
  have := t.isLt
  have : cfg0.N = 4 := rfl
  rw [outsAt0_A m c t h (by omega) h (by omega) h (by omega), term7_eq, zero_add]
  frame_out
  pointwise [k0_pay12, k0_pay11, k0_pay8, k0_pay7, k0_pay6, k0_pay5, eg, ms]

/-- Each later point adds its term. -/
theorem step7 (t : Fin cfg0.N) (h : ¬t.val % 4 = 0) (y : S1x1024.Idx) : (outsAt0 m c t.val t.isLt).2.1 y
    = (outsAt0 m c (t.val - 1) (Nat.lt_of_le_of_lt (Nat.sub_le _ _) t.isLt)).2.1 y + term7 m c t y := by
  have := t.isLt
  have : cfg0.N = 4 := rfl
  rw [outsAt0_B m c t h (by omega) h (by omega) h (by omega), term7_eq]
  frame_out
  pointwise [k0_pay2, k0_pay10, k0_pay12, k0_pay11, k0_pay8, k0_pay7, k0_pay6, k0_pay5, eg, ms]

/-- The gain's gradient. -/
def G7 : S1x1024.Idx → EReal := fun i =>
  ∑ r : Fin 2048, eg (m ((c : Thread nD τ).loc main_arg0)) (m ((c : Thread nD τ).loc main_arg4)) (m ((c : Thread nD τ).loc main_arg2)) r (i 1)

/-- The gain's result array is its gradient. -/
theorem final7 : (dats m 0 c).arrAt 7 cfg0.N = G7 m c := by
  refine (dats m 0 c).arrAt_eq_of_covers 7 _ (by decide +kernel) fun t hf y => ?_
  have ht := (flush0_7 t).1 hf
  have ht4 : t.val < 4 := t.isLt
  rw [after0_7]
  blk_simp
  have e : (win0_7.blk t).view.emb y = y := by
    blk_ext [idx t]
  rw [e]
  refine (Pipeline.eq_sum_fin_of_reset_step_apply_of_flush (fun n h => (outsAt0 m c n h).2.1) 4 (fun _ => 0)
    (term7 m c) (reset7 m c) (step7 m c) t ht y).trans ?_
  rw [zero_add]
  refine Fin.sum_mul_add_congr fun s k _ => ?_
  congr 1
  exact Fin.ext (by simp only [row]; omega)

/-- What a point's rows give to the scale's gradient. -/
def term8 (t : Fin 4) (i : S1x1024.Idx) : EReal :=
  ∑ r : Fin 512, es (m ((c : Thread nD τ).loc main_arg0)) (m ((c : Thread nD τ).loc main_arg4)) (m ((c : Thread nD τ).loc main_arg1)) (row t r) (i 1)

/-- The same of the blocks that the point holds. -/
theorem term8_eq (t : Fin cfg0.N) (y : S1x1024.Idx) : term8 m c t y
    = ∑ r : Fin 512, es (iblk m c 0 t) (iblk m c 4 t) (iblk m c 1 t) r (y 1) := by
  rw [blk_g]
  exact Fin.sum_fin_congr fun r => (es_congr _ (blk_x m c t r) (blk_dh m c t r) _).symm

/-- The first point leaves its term. -/
theorem reset8 (t : Fin cfg0.N) (h : t.val % 4 = 0) (y : S1x1024.Idx) :
    (outsAt0 m c t.val t.isLt).2.2.1 y = 0 + term8 m c t y := by
  have := t.isLt
  have : cfg0.N = 4 := rfl
  rw [outsAt0_A m c t h (by omega) h (by omega) h (by omega), term8_eq, zero_add]
  frame_out
  pointwise [k0_pay10, k0_pay12, k0_pay11, k0_pay8, k0_pay7, k0_pay6, k0_pay5, es, ms]

/-- Each later point adds its term. -/
theorem step8 (t : Fin cfg0.N) (h : ¬t.val % 4 = 0) (y : S1x1024.Idx) : (outsAt0 m c t.val t.isLt).2.2.1 y
    = (outsAt0 m c (t.val - 1) (Nat.lt_of_le_of_lt (Nat.sub_le _ _) t.isLt)).2.2.1 y + term8 m c t y := by
  have := t.isLt
  have : cfg0.N = 4 := rfl
  rw [outsAt0_B m c t h (by omega) h (by omega) h (by omega), term8_eq]
  frame_out
  pointwise [k0_pay3, k0_pay10, k0_pay12, k0_pay11, k0_pay8, k0_pay7, k0_pay6, k0_pay5, es, ms]

/-- The scale's gradient. -/
def G8 : S1x1024.Idx → EReal := fun i =>
  ∑ r : Fin 2048, es (m ((c : Thread nD τ).loc main_arg0)) (m ((c : Thread nD τ).loc main_arg4)) (m ((c : Thread nD τ).loc main_arg1)) r (i 1)

/-- The scale's result array is its gradient. -/
theorem final8 : (dats m 0 c).arrAt 8 cfg0.N = G8 m c := by
  refine (dats m 0 c).arrAt_eq_of_covers 8 _ (by decide +kernel) fun t hf y => ?_
  have ht := (flush0_8 t).1 hf
  have ht4 : t.val < 4 := t.isLt
  rw [after0_8]
  blk_simp
  have e : (win0_8.blk t).view.emb y = y := by
    blk_ext [idx t]
  rw [e]
  refine (Pipeline.eq_sum_fin_of_reset_step_apply_of_flush (fun n h => (outsAt0 m c n h).2.2.1) 4 (fun _ => 0)
    (term8 m c) (reset8 m c) (step8 m c) t ht y).trans ?_
  rw [zero_add]
  refine Fin.sum_mul_add_congr fun s k _ => ?_
  congr 1
  exact Fin.ext (by simp only [row]; omega)

/-- What a point's rows give to the shift's gradient. -/
def term9 (t : Fin 4) (i : S1x1024.Idx) : EReal :=
  ∑ r : Fin 512, eh (m ((c : Thread nD τ).loc main_arg4)) (row t r) (i 1)

/-- The same of the blocks that the point holds. -/
theorem term9_eq (t : Fin cfg0.N) (y : S1x1024.Idx) : term9 m c t y
    = ∑ r : Fin 512, eh (iblk m c 4 t) r (y 1) := by
  exact Fin.sum_fin_congr fun r => (eh_congr (blk_dh m c t r) _).symm

/-- The first point leaves its term. -/
theorem reset9 (t : Fin cfg0.N) (h : t.val % 4 = 0) (y : S1x1024.Idx) :
    (outsAt0 m c t.val t.isLt).2.2.2 y = 0 + term9 m c t y := by
  have := t.isLt
  have : cfg0.N = 4 := rfl
  rw [outsAt0_A m c t h (by omega) h (by omega) h (by omega), term9_eq, zero_add]
  frame_out
  pointwise [k0_pay9, k0_pay12, k0_pay11, k0_pay8, k0_pay7, k0_pay6, k0_pay5, eh]

/-- Each later point adds its term. -/
theorem step9 (t : Fin cfg0.N) (h : ¬t.val % 4 = 0) (y : S1x1024.Idx) : (outsAt0 m c t.val t.isLt).2.2.2 y
    = (outsAt0 m c (t.val - 1) (Nat.lt_of_le_of_lt (Nat.sub_le _ _) t.isLt)).2.2.2 y + term9 m c t y := by
  have := t.isLt
  have : cfg0.N = 4 := rfl
  rw [outsAt0_B m c t h (by omega) h (by omega) h (by omega), term9_eq]
  frame_out
  pointwise [k0_pay4, k0_pay9, k0_pay12, k0_pay11, k0_pay8, k0_pay7, k0_pay6, k0_pay5, eh]

/-- The shift's gradient. -/
def G9 : S1x1024.Idx → EReal := fun i =>
  ∑ r : Fin 2048, eh (m ((c : Thread nD τ).loc main_arg4)) r (i 1)

/-- The shift's result array is its gradient. -/
theorem final9 : (dats m 0 c).arrAt 9 cfg0.N = G9 m c := by
  refine (dats m 0 c).arrAt_eq_of_covers 9 _ (by decide +kernel) fun t hf y => ?_
  have ht := (flush0_9 t).1 hf
  have ht4 : t.val < 4 := t.isLt
  rw [after0_9]
  blk_simp
  have e : (win0_9.blk t).view.emb y = y := by
    blk_ext [idx t]
  rw [e]
  refine (Pipeline.eq_sum_fin_of_reset_step_apply_of_flush (fun n h => (outsAt0 m c n h).2.2.2) 4 (fun _ => 0)
    (term9 m c) (reset9 m c) (step9 m c) t ht y).trans ?_
  rw [zero_add]
  refine Fin.sum_mul_add_congr fun s k _ => ?_
  congr 1
  exact Fin.ext (by simp only [row]; omega)

end Kernel

/-- The gradient of the modulated norm, in the rows, the gain, the scale and the shift. -/
theorem value_Norm : Cert.algebraic_NormIdeal_NormRefIdeal := by
  intro m ρ m' ρ' _ hagree
  refine ⟨_, _, _, _, (θ_run Cert.NormIdeal.defs _ _).mono (fun _ h c => ⟨(h c).1.trans (final6 m c),
      (h c).2.1.trans (final7 m c), (h c).2.2.1.trans (final8 m c), (h c).2.2.2.1.trans (final9 m c), (h c).2.2.2.2⟩)
    (Cert.NormIdeal.Value.run_blocks (F := Ideal) m ρ), ?_⟩
  refine (θ_run Cert.NormRefIdeal.defs _ _).mono (fun _ h c => ⟨(h c).1.trans ?_, (h c).2.1.trans ?_,
      (h c).2.2.1.trans ?_, (h c).2.2.2.1.trans ?_, (h c).2.2.2.2⟩)
    (Cert.NormRefIdeal.Value.run (F := Ideal) m' ρ')
  all_goals
    obtain ⟨h0, h1, h2, h3, h4, h5⟩ := hagree c
    funext i
  · unfold Cert.NormRefIdeal.Value.res_main_v48
    pointwise [G6, dx, slope, ms, h0, h1, h2, h4, h5]
  · pointwise [G7, eg, ms, h0, h2, h4]
  · pointwise [G8, es, ms, h0, h1, h4]
  · pointwise [G9, eh, h4]

end Cert.Norms

end
-- ==== Proof.AdaValue.lean ====
/-
  The optimiser's step on the modulation's weight, whose gradient is the product of the activated conditioning with the
  gradient in the modulation: the kernel makes it block by block and steps each block's entries.
-/
module

public import proofs.«01_k».proof.Defs
public import proofs.«01_k».proof.Proof.Gen.AdamAdaIdeal.Value
public import proofs.«01_k».proof.Proof.Gen.AdamAdaRefIdeal.Run
public import Idealize.ShloMosaic.Lib.Pipeline.ValueKit
public import Idealize.ShloMosaic.Lib.Claim

@[expose] public section

set_option maxRecDepth 16384

noncomputable section

namespace Cert.Ada

open Idealize.ShloMosaic Idealize.ShloMosaic.TcCoe Idealize.SL.Sem

section Math

/-- The first moment after a step with the gradient `g`. -/
def first (g m : EReal) : EReal :=
  Ideal.ofBits .f32 0x3F666666#32 * m + Ideal.ofBits .f32 0x3DCCCCCD#32 * g

/-- The second moment after a step. -/
def second (g v : EReal) : EReal :=
  Ideal.ofBits .f32 0x3F7FBE77#32 * v + Ideal.ofBits .f32 0x3A83126F#32 * (g * g)

/-- The weight's change. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-- The weight's gradient: over the batch, the gradient in the modulation times the activated conditioning. -/
def grad (a : (⟨2, ![8, 1024]⟩ : Shape).Idx → EReal) (d : (⟨3, ![2, 8, 1536]⟩ : Shape).Idx → EReal)
    (i : (⟨3, ![2, 1024, 1536]⟩ : Shape).Idx) : EReal :=
  ∑ b : Fin 8, d (ix3 (i 0) b (i 2)) * (a (ix2 b (i 1)) * Ideal.div 1 (1 + Ideal.exp (-a (ix2 b (i 1)))))

/-- The same of a block, the conditioning transposed. -/
def part (a : (⟨2, ![1024, 8]⟩ : Shape).Idx → EReal) (d : (⟨3, ![1, 8, 768]⟩ : Shape).Idx → EReal)
    (y : (⟨3, ![1, 1024, 768]⟩ : Shape).Idx) : EReal :=
  ∑ b : Fin 8, a (ix2 (y 1) b) * Ideal.logistic (a (ix2 (y 1) b)) * d (ix3 0 b (y 2))

end Math

section Kernel

open Cert.AdamAdaIdeal Cert.AdamAdaIdeal.Gen

variable (m : (ℓ : Loc nD τ sig) → Buf (Elt Ideal) ℓ) (c : Dev nD)

/-- The block of each window at a grid point. -/
theorem idx : ∀ t : Fin cfg0.N, win0_0.index t = ![0, 0] ∧ win0_1.index t = ![t.val / 2, 0, t.val % 2]
    ∧ win0_2.index t = ![t.val / 2, 0, t.val % 2] ∧ win0_3.index t = ![t.val / 2, 0, t.val % 2]
    ∧ win0_4.index t = ![t.val / 2, 0, t.val % 2] ∧ win0_5.index t = ![t.val / 2, 0, t.val % 2]
    ∧ win0_6.index t = ![t.val / 2, 0, t.val % 2] ∧ win0_7.index t = ![t.val / 2, 0, t.val % 2]
    ∧ win0_8.index t = ![t.val / 2, 0, t.val % 2] :=
  (by decide +kernel : ∀ t : Fin grid0.N, _)

/-- Where a point's block has its entries in the array. -/
def place (t : Fin 4) (y : S1x1024x768.Idx) : S2x1024x1536.Idx :=
  ix3 ⟨t.val / 2, by omega⟩ (y 1) ⟨t.val % 2 * 768 + (y 2).val, by have h : (y 2).val < 768 := (y 2).isLt; omega⟩

/-- What each window's block holds of its array. -/
theorem blk_c (t : Fin cfg0.N) (k : Fin 1024) (b : Fin 8) : iblk m c 0 t (ix2 k b : S1024x8.Idx)
    = m ((c : Thread nD τ).loc main_arg0) (ix2 b k : S8x1024.Idx) := by
  blk_point [iblk, V, idx t]

theorem blk_d (t : Fin cfg0.N) (b : Fin 8) (y : S1x1024x768.Idx) : iblk m c 1 t (ix3 0 b (y 2) : S1x8x768.Idx)
    = m ((c : Thread nD τ).loc main_arg1) (ix3 (place t y 0) b (place t y 2) : S2x8x1536.Idx) := by
  blk_point [iblk, V, idx t, place]

theorem blk_w (t : Fin cfg0.N) (y : S1x1024x768.Idx) :
    iblk m c 2 t y = m ((c : Thread nD τ).loc main_arg2) (place t y) := by
  blk_point [iblk, V, idx t, place]

theorem blk_m (t : Fin cfg0.N) (y : S1x1024x768.Idx) :
    iblk m c 3 t y = m ((c : Thread nD τ).loc main_arg3) (place t y) := by
  blk_point [iblk, V, idx t, place]

theorem blk_v (t : Fin cfg0.N) (y : S1x1024x768.Idx) :
    iblk m c 4 t y = m ((c : Thread nD τ).loc main_arg4) (place t y) := by
  blk_point [iblk, V, idx t, place]

/-- The gradient that the arguments give. -/
def G : S2x1024x1536.Idx → EReal :=
  grad (m ((c : Thread nD τ).loc main_arg0)) (m ((c : Thread nD τ).loc main_arg1))

/-- A block's gradient is the array's at the block's place. -/
theorem part_eq (t : Fin cfg0.N) (y : S1x1024x768.Idx) :
    part (iblk m c 0 t) (iblk m c 1 t) y = G m c (place t y) := by
  unfold part G grad
  refine Fin.sum_fin_congr fun b => ?_
  rw [mul_comm, blk_d m c t b y, blk_c m c t (y 1) b]
  rfl

/-- The gradient in a point's block. -/
theorem block5 (t : Fin cfg0.N) (y : S1x1024x768.Idx) :
    out0_5 (iblk m c 0 t) (iblk m c 1 t) (iblk m c 2 t) (iblk m c 3 t) (iblk m c 4 t) y
      = part (iblk m c 0 t) (iblk m c 1 t) y := by
  frame_out
  pointwise [k0_pay1, k0_pay2, k0_pay3, k0_pay4, k0_pay5, k0_pay6, k0_pay7, k0_pay8, k0_pay9, k0_pay10, part, first, second, delta]

/-- The gradient in the array. -/
theorem final5 : (dats m 0 c).arrAt 5 cfg0.N = fun i : S2x1024x1536.Idx =>
    G m c i := by
  refine (dats m 0 c).arrAt_eq_of_covers 5 _ (by decide +kernel) fun t _ y => ?_
  rw [after0_5]
  blk_simp
  have e : (win0_5.blk t).view.emb y = place t y := by
    blk_ext [idx t, place]
  rw [e]
  exact (block5 m c t y).trans (by rw [part_eq])

/-- The weight's change in a point's block. -/
theorem block6 (t : Fin cfg0.N) (y : S1x1024x768.Idx) :
    out0_6 (iblk m c 0 t) (iblk m c 1 t) (iblk m c 2 t) (iblk m c 3 t) (iblk m c 4 t) y
      = delta (iblk m c 2 t y) (part (iblk m c 0 t) (iblk m c 1 t) y) (iblk m c 3 t y) (iblk m c 4 t y) := by
  frame_out
  pointwise [k0_pay1, k0_pay2, k0_pay3, k0_pay4, k0_pay5, k0_pay6, k0_pay7, k0_pay8, k0_pay9, k0_pay10, part, first, second, delta]

/-- The weight's change in the array. -/
theorem final6 : (dats m 0 c).arrAt 6 cfg0.N = fun i : S2x1024x1536.Idx =>
    delta (m ((c : Thread nD τ).loc main_arg2) i) (G m c i) (m ((c : Thread nD τ).loc main_arg3) i) (m ((c : Thread nD τ).loc main_arg4) i) := by
  refine (dats m 0 c).arrAt_eq_of_covers 6 _ (by decide +kernel) fun t _ y => ?_
  rw [after0_6]
  blk_simp
  have e : (win0_6.blk t).view.emb y = place t y := by
    blk_ext [idx t, place]
  rw [e]
  exact (block6 m c t y).trans (by rw [part_eq, blk_w, blk_m, blk_v])

/-- The new first moment in a point's block. -/
theorem block7 (t : Fin cfg0.N) (y : S1x1024x768.Idx) :
    out0_7 (iblk m c 0 t) (iblk m c 1 t) (iblk m c 2 t) (iblk m c 3 t) (iblk m c 4 t) y
      = first (part (iblk m c 0 t) (iblk m c 1 t) y) (iblk m c 3 t y) := by
  frame_out
  pointwise [k0_pay1, k0_pay2, k0_pay3, k0_pay4, k0_pay5, k0_pay6, k0_pay7, k0_pay8, k0_pay9, k0_pay10, part, first, second, delta]

/-- The new first moment in the array. -/
theorem final7 : (dats m 0 c).arrAt 7 cfg0.N = fun i : S2x1024x1536.Idx =>
    first (G m c i) (m ((c : Thread nD τ).loc main_arg3) i) := by
  refine (dats m 0 c).arrAt_eq_of_covers 7 _ (by decide +kernel) fun t _ y => ?_
  rw [after0_7]
  blk_simp
  have e : (win0_7.blk t).view.emb y = place t y := by
    blk_ext [idx t, place]
  rw [e]
  exact (block7 m c t y).trans (by rw [part_eq, blk_m])

/-- The new second moment in a point's block. -/
theorem block8 (t : Fin cfg0.N) (y : S1x1024x768.Idx) :
    out0_8 (iblk m c 0 t) (iblk m c 1 t) (iblk m c 2 t) (iblk m c 3 t) (iblk m c 4 t) y
      = second (part (iblk m c 0 t) (iblk m c 1 t) y) (iblk m c 4 t y) := by
  frame_out
  pointwise [k0_pay1, k0_pay2, k0_pay3, k0_pay4, k0_pay5, k0_pay6, k0_pay7, k0_pay8, k0_pay9, k0_pay10, part, first, second, delta]

/-- The new second moment in the array. -/
theorem final8 : (dats m 0 c).arrAt 8 cfg0.N = fun i : S2x1024x1536.Idx =>
    second (G m c i) (m ((c : Thread nD τ).loc main_arg4) i) := by
  refine (dats m 0 c).arrAt_eq_of_covers 8 _ (by decide +kernel) fun t _ y => ?_
  rw [after0_8]
  blk_simp
  have e : (win0_8.blk t).view.emb y = place t y := by
    blk_ext [idx t, place]
  rw [e]
  exact (block8 m c t y).trans (by rw [part_eq, blk_v])

end Kernel

/-- The optimiser's step on the modulation's weight. -/
theorem value_AdamAda : Cert.algebraic_AdamAdaIdeal_AdamAdaRefIdeal := by
  intro m ρ m' ρ' _ hagree
  refine ⟨_, _, _, _, (θ_run Cert.AdamAdaIdeal.defs _ _).mono (fun _ h c => ⟨(h c).1.trans (final5 m c),
      (h c).2.1.trans (final6 m c), (h c).2.2.1.trans (final7 m c), (h c).2.2.2.1.trans (final8 m c), (h c).2.2.2.2⟩)
    (Cert.AdamAdaIdeal.Value.run_blocks (F := Ideal) m ρ), ?_⟩
  refine (θ_run Cert.AdamAdaRefIdeal.defs _ _).mono (fun _ h c => ⟨(h c).1.trans ?_, (h c).2.1.trans ?_,
      (h c).2.2.1.trans ?_, (h c).2.2.2.1.trans ?_, (h c).2.2.2.2⟩)
    (Cert.AdamAdaRefIdeal.Value.run (F := Ideal) m' ρ')
  all_goals
    obtain ⟨h0, h1, h2, h3, h4⟩ := hagree c
    funext i
    pointwise [G, grad, first, second, delta, h0, h1, h2, h3, h4]

end Cert.Ada

end
-- ==== Proof.RefFrames.lean ====
/-
  The references' frames: a reference has no semaphore, and its run leaves the arguments as they were.
-/
module

public import proofs.«01_k».proof.Defs
public import proofs.«01_k».proof.Proof.Gen.UpRefIdeal.Run
public import proofs.«01_k».proof.Proof.Gen.UpDwRefIdeal.Run
public import proofs.«01_k».proof.Proof.Gen.UpDxRefIdeal.Run
public import proofs.«01_k».proof.Proof.Gen.DownRefIdeal.Run
public import proofs.«01_k».proof.Proof.Gen.DownDwRefIdeal.Run
public import proofs.«01_k».proof.Proof.Gen.DownDxRefIdeal.Run
public import proofs.«01_k».proof.Proof.Gen.OutRefIdeal.Run
public import proofs.«01_k».proof.Proof.Gen.OutDwRefIdeal.Run
public import proofs.«01_k».proof.Proof.Gen.OutDxRefIdeal.Run
public import proofs.«01_k».proof.Proof.Gen.InRefIdeal.Run
public import proofs.«01_k».proof.Proof.Gen.InDwRefIdeal.Run
public import proofs.«01_k».proof.Proof.Gen.InDxRefIdeal.Run
public import proofs.«01_k».proof.Proof.Gen.AdamOutRefIdeal.Run
public import proofs.«01_k».proof.Proof.Gen.AdamUpRefIdeal.Run
public import proofs.«01_k».proof.Proof.Gen.AdamDownRefIdeal.Run
public import proofs.«01_k».proof.Proof.Gen.AdamConvRefIdeal.Run
public import proofs.«01_k».proof.Proof.Gen.AdamPointRefIdeal.Run
public import proofs.«01_k».proof.Proof.Gen.AdamGateRefIdeal.Run
public import proofs.«01_k».proof.Proof.Gen.AdamInRefIdeal.Run
public import proofs.«01_k».proof.Proof.Gen.NormRefIdeal.Run
public import proofs.«01_k».proof.Proof.Gen.AdamAdaRefIdeal.Run
public import Idealize.ShloMosaic.Adequacy
public import Idealize.ShloMosaic.Init
public import Idealize.ShloMosaic.Lib.Quiescent

@[expose] public section

noncomputable section

namespace Cert.RefFrames

open Idealize.ShloMosaic Idealize.SL.Sem

theorem frame_Up : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem frame_UpDw : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem frame_UpDx : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem frame_Down : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_DownDw : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem frame_DownDx : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem frame_Out : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem frame_OutDw : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem frame_OutDx : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem frame_In : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

theorem frame_InDw : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem frame_InDx : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem frame_AdamOut : Cert.quiescent_AdamOutRefIdeal := fun m ρ _ =>
  (θ_run Cert.AdamOutRefIdeal.defs _ _).mono (fun r h => ⟨fun c => (h c).2.2.2.2,
    sem_eq_zero_of_no_sems (by decide) r.2⟩)
    (Cert.AdamOutRefIdeal.Value.run (F := Ideal) m ρ)

theorem frame_AdamUp : Cert.quiescent_AdamUpRefIdeal := fun m ρ _ =>
  (θ_run Cert.AdamUpRefIdeal.defs _ _).mono (fun r h => ⟨fun c => (h c).2.2.2.2,
    sem_eq_zero_of_no_sems (by decide) r.2⟩)
    (Cert.AdamUpRefIdeal.Value.run (F := Ideal) m ρ)

theorem frame_AdamDown : Cert.quiescent_AdamDownRefIdeal := fun m ρ _ =>
  (θ_run Cert.AdamDownRefIdeal.defs _ _).mono (fun r h => ⟨fun c => (h c).2.2.2.2,
    sem_eq_zero_of_no_sems (by decide) r.2⟩)
    (Cert.AdamDownRefIdeal.Value.run (F := Ideal) m ρ)

theorem frame_AdamConv : Cert.quiescent_AdamConvRefIdeal := fun m ρ _ =>
  (θ_run Cert.AdamConvRefIdeal.defs _ _).mono (fun r h => ⟨fun c => (h c).2.2.2.2,
    sem_eq_zero_of_no_sems (by decide) r.2⟩)
    (Cert.AdamConvRefIdeal.Value.run (F := Ideal) m ρ)

theorem frame_AdamPoint : Cert.quiescent_AdamPointRefIdeal := fun m ρ _ =>
  (θ_run Cert.AdamPointRefIdeal.defs _ _).mono (fun r h => ⟨fun c => (h c).2.2.2.2,
    sem_eq_zero_of_no_sems (by decide) r.2⟩)
    (Cert.AdamPointRefIdeal.Value.run (F := Ideal) m ρ)

theorem frame_AdamGate : Cert.quiescent_AdamGateRefIdeal := fun m ρ _ =>
  (θ_run Cert.AdamGateRefIdeal.defs _ _).mono (fun r h => ⟨fun c => (h c).2.2.2.2,
    sem_eq_zero_of_no_sems (by decide) r.2⟩)
    (Cert.AdamGateRefIdeal.Value.run (F := Ideal) m ρ)

theorem frame_AdamIn : Cert.quiescent_AdamInRefIdeal := fun m ρ _ =>
  (θ_run Cert.AdamInRefIdeal.defs _ _).mono (fun r h => ⟨fun c => (h c).2.2.2.2,
    sem_eq_zero_of_no_sems (by decide) r.2⟩)
    (Cert.AdamInRefIdeal.Value.run (F := Ideal) m ρ)

theorem frame_Norm : Cert.quiescent_NormRefIdeal := fun m ρ _ =>
  (θ_run Cert.NormRefIdeal.defs _ _).mono (fun r h => ⟨fun c => (h c).2.2.2.2,
    sem_eq_zero_of_no_sems (by decide) r.2⟩)
    (Cert.NormRefIdeal.Value.run (F := Ideal) m ρ)

theorem frame_AdamAda : Cert.quiescent_AdamAdaRefIdeal := fun m ρ _ =>
  (θ_run Cert.AdamAdaRefIdeal.defs _ _).mono (fun r h => ⟨fun c => (h c).2.2.2.2,
    sem_eq_zero_of_no_sems (by decide) r.2⟩)
    (Cert.AdamAdaRefIdeal.Value.run (F := Ideal) m ρ)

end Cert.RefFrames

end
-- ==== Proof.lean ====
/-
  The certificate: every program runs to its end with its arguments unchanged and no semaphore left, idealizing the
  attention's backward kernel changes its named constant only, and each of the other kernels,
  idealized, returns what its reference returns.
-/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Ends
public import proofs.«01_k».proof.Proof.Word
public import proofs.«01_k».proof.Proof.UpValue
public import proofs.«01_k».proof.Proof.DownValue
public import proofs.«01_k».proof.Proof.OutValue
public import proofs.«01_k».proof.Proof.InValue
public import proofs.«01_k».proof.Proof.AdamValue
public import proofs.«01_k».proof.Proof.NormValue
public import proofs.«01_k».proof.Proof.AdaValue
public import proofs.«01_k».proof.Proof.RefFrames
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamConv.Frame
public import proofs.«01_k».proof.Proof.Gen.AdamConvIdeal.Frame
public import proofs.«01_k».proof.Proof.Gen.AdamConvIdeal.Value
public import proofs.«01_k».proof.Proof.Gen.AdamConvRefIdeal.Run
public import proofs.«01_k».proof.Proof.Gen.AdamPoint.Frame
public import proofs.«01_k».proof.Proof.Gen.AdamPointIdeal.Frame
public import proofs.«01_k».proof.Proof.Gen.AdamPointIdeal.Value
public import proofs.«01_k».proof.Proof.Gen.AdamPointRefIdeal.Run
public import proofs.«01_k».proof.Proof.Gen.AdamGate.Frame
public import proofs.«01_k».proof.Proof.Gen.AdamGateIdeal.Frame
public import proofs.«01_k».proof.Proof.Gen.AdamGateIdeal.Value
public import proofs.«01_k».proof.Proof.Gen.AdamGateRefIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.AdamAda.Frame
public import proofs.«01_k».proof.Proof.Gen.AdamAdaIdeal.Frame
public import proofs.«01_k».proof.Proof.Gen.AdamAdaIdeal.Value
public import proofs.«01_k».proof.Proof.Gen.AdamAdaRefIdeal.Run
public import Idealize.ShloMosaic.Adequacy
public import Idealize.ShloMosaic.Init

@[expose] public section

noncomputable section

namespace Cert.Proof

open Idealize.ShloMosaic Idealize.SL.Sem

/-- Everything claimed: the frames program by program, then what idealization preserves and the values. -/
theorem claim : Cert.Claim :=
  ⟨Cert.Kernel.Gen.facts, Cert.KernelIdeal.Gen.facts, Cert.Up.Gen.facts, Cert.UpIdeal.Gen.facts,
   Cert.UpRefIdeal.Gen.facts, Cert.UpDw.Gen.facts, Cert.UpDwIdeal.Gen.facts, Cert.UpDwRefIdeal.Gen.facts,
   Cert.UpDx.Gen.facts, Cert.UpDxIdeal.Gen.facts, Cert.UpDxRefIdeal.Gen.facts, Cert.Down.Gen.facts,
   Cert.DownIdeal.Gen.facts, Cert.DownRefIdeal.Gen.facts, Cert.DownDw.Gen.facts, Cert.DownDwIdeal.Gen.facts,
   Cert.DownDwRefIdeal.Gen.facts, Cert.DownDx.Gen.facts, Cert.DownDxIdeal.Gen.facts, Cert.DownDxRefIdeal.Gen.facts,
   Cert.Out.Gen.facts, Cert.OutIdeal.Gen.facts, Cert.OutRefIdeal.Gen.facts, Cert.OutDw.Gen.facts,
   Cert.OutDwIdeal.Gen.facts, Cert.OutDwRefIdeal.Gen.facts, Cert.OutDx.Gen.facts, Cert.OutDxIdeal.Gen.facts,
   Cert.OutDxRefIdeal.Gen.facts, Cert.In.Gen.facts, Cert.InIdeal.Gen.facts, Cert.InRefIdeal.Gen.facts,
   Cert.InDw.Gen.facts, Cert.InDwIdeal.Gen.facts, Cert.InDwRefIdeal.Gen.facts, Cert.InDx.Gen.facts,
   Cert.InDxIdeal.Gen.facts, Cert.InDxRefIdeal.Gen.facts, Cert.AdamOut.Gen.facts, Cert.AdamOutIdeal.Gen.facts,
   Cert.AdamOutRefIdeal.Gen.facts, Cert.AdamUp.Gen.facts, Cert.AdamUpIdeal.Gen.facts, Cert.AdamUpRefIdeal.Gen.facts,
   Cert.AdamDown.Gen.facts, Cert.AdamDownIdeal.Gen.facts, Cert.AdamDownRefIdeal.Gen.facts, Cert.AdamConv.Gen.facts,
   Cert.AdamConvIdeal.Gen.facts, Cert.AdamConvRefIdeal.Gen.facts, Cert.AdamPoint.Gen.facts,
   Cert.AdamPointIdeal.Gen.facts, Cert.AdamPointRefIdeal.Gen.facts, Cert.AdamGate.Gen.facts,
   Cert.AdamGateIdeal.Gen.facts, Cert.AdamGateRefIdeal.Gen.facts, Cert.AdamIn.Gen.facts, Cert.AdamInIdeal.Gen.facts,
   Cert.AdamInRefIdeal.Gen.facts, Cert.Norm.Gen.facts, Cert.NormIdeal.Gen.facts, Cert.NormRefIdeal.Gen.facts,
   Cert.AdamAda.Gen.facts, Cert.AdamAdaIdeal.Gen.facts, Cert.AdamAdaRefIdeal.Gen.facts,
    Cert.Fox.frame_word,
    fun m ρ _ => Cert.Fox.frame_ideal m ρ,
    fun m ρ _ => Cert.Up.Gen.frame m ρ,
    fun m ρ _ => Cert.UpIdeal.Gen.frame m ρ,
    Cert.RefFrames.frame_Up,
    fun m ρ _ => Cert.UpDw.Gen.frame m ρ,
    fun m ρ _ => Cert.UpDwIdeal.Gen.frame m ρ,
    Cert.RefFrames.frame_UpDw,
    fun m ρ _ => Cert.UpDx.Gen.frame m ρ,
    fun m ρ _ => Cert.UpDxIdeal.Gen.frame m ρ,
    Cert.RefFrames.frame_UpDx,
    fun m ρ _ => Cert.Down.Gen.frame m ρ,
    fun m ρ _ => Cert.DownIdeal.Gen.frame m ρ,
    Cert.RefFrames.frame_Down,
    fun m ρ _ => Cert.DownDw.Gen.frame m ρ,
    fun m ρ _ => Cert.DownDwIdeal.Gen.frame m ρ,
    Cert.RefFrames.frame_DownDw,
    fun m ρ _ => Cert.DownDx.Gen.frame m ρ,
    fun m ρ _ => Cert.DownDxIdeal.Gen.frame m ρ,
    Cert.RefFrames.frame_DownDx,
    fun m ρ _ => Cert.Out.Gen.frame m ρ,
    fun m ρ _ => Cert.OutIdeal.Gen.frame m ρ,
    Cert.RefFrames.frame_Out,
    fun m ρ _ => Cert.OutDw.Gen.frame m ρ,
    fun m ρ _ => Cert.OutDwIdeal.Gen.frame m ρ,
    Cert.RefFrames.frame_OutDw,
    fun m ρ _ => Cert.OutDx.Gen.frame m ρ,
    fun m ρ _ => Cert.OutDxIdeal.Gen.frame m ρ,
    Cert.RefFrames.frame_OutDx,
    fun m ρ _ => Cert.In.Gen.frame m ρ,
    fun m ρ _ => Cert.InIdeal.Gen.frame m ρ,
    Cert.RefFrames.frame_In,
    fun m ρ _ => Cert.InDw.Gen.frame m ρ,
    fun m ρ _ => Cert.InDwIdeal.Gen.frame m ρ,
    Cert.RefFrames.frame_InDw,
    fun m ρ _ => Cert.InDx.Gen.frame m ρ,
    fun m ρ _ => Cert.InDxIdeal.Gen.frame m ρ,
    Cert.RefFrames.frame_InDx,
    fun m ρ _ => Cert.AdamOut.Gen.frame m ρ,
    fun m ρ _ => Cert.AdamOutIdeal.Gen.frame m ρ,
    Cert.RefFrames.frame_AdamOut,
    fun m ρ _ => Cert.AdamUp.Gen.frame m ρ,
    fun m ρ _ => Cert.AdamUpIdeal.Gen.frame m ρ,
    Cert.RefFrames.frame_AdamUp,
    fun m ρ _ => Cert.AdamDown.Gen.frame m ρ,
    fun m ρ _ => Cert.AdamDownIdeal.Gen.frame m ρ,
    Cert.RefFrames.frame_AdamDown,
    fun m ρ _ => Cert.AdamConv.Gen.frame m ρ,
    fun m ρ _ => Cert.AdamConvIdeal.Gen.frame m ρ,
    Cert.RefFrames.frame_AdamConv,
    fun m ρ _ => Cert.AdamPoint.Gen.frame m ρ,
    fun m ρ _ => Cert.AdamPointIdeal.Gen.frame m ρ,
    Cert.RefFrames.frame_AdamPoint,
    fun m ρ _ => Cert.AdamGate.Gen.frame m ρ,
    fun m ρ _ => Cert.AdamGateIdeal.Gen.frame m ρ,
    Cert.RefFrames.frame_AdamGate,
    fun m ρ _ => Cert.AdamIn.Gen.frame m ρ,
    fun m ρ _ => Cert.AdamInIdeal.Gen.frame m ρ,
    Cert.RefFrames.frame_AdamIn,
    fun m ρ _ => Cert.Norm.Gen.frame m ρ,
    fun m ρ _ => Cert.NormIdeal.Gen.frame m ρ,
    Cert.RefFrames.frame_Norm,
    fun m ρ _ => Cert.AdamAda.Gen.frame m ρ,
    fun m ρ _ => Cert.AdamAdaIdeal.Gen.frame m ρ,
    Cert.RefFrames.frame_AdamAda,
    IdealRules.named_const.statement Cert.KernelIdeal.κ "mask" .f32 0xF149F2CA#32 ⊥ rfl,
    trivial, Cert.Products.value_Up,
    trivial, Cert.Products.value_UpDw,
    trivial, Cert.Products.value_UpDx,
    trivial, Cert.Products.value_Down,
    trivial, Cert.Products.value_DownDw,
    trivial, Cert.Products.value_DownDx,
    trivial, Cert.Products.value_Out,
    trivial, Cert.Products.value_OutDw,
    trivial, Cert.Products.value_OutDx,
    trivial, Cert.Products.value_In,
    trivial, Cert.Products.value_InDw,
    trivial, Cert.Products.value_InDx,
    trivial, Cert.Adam.value_AdamOut,
    trivial, Cert.Adam.value_AdamUp,
    trivial, Cert.Adam.value_AdamDown,
    trivial, Cert.Adam.value_AdamConv,
    trivial, Cert.Adam.value_AdamPoint,
    trivial, Cert.Adam.value_AdamGate,
    trivial, Cert.Adam.value_AdamIn,
    trivial, Cert.Norms.value_Norm,
    trivial, Cert.Ada.value_AdamAda⟩

end Cert.Proof

end
